-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .f32) (main_arg1 : FVec F S768x512 .f32) (main_arg2 : FVec F S2x512x32x64 .f32) (main_arg3 : FVec F S2x512x32x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x32x64 .f32 := Host.absf main_arg2
  let main_cst_2 : FVec F S_ .f32 := constant S_ .f32 0x7F800000#32
  let main_v10 : FVec F S2x512x32x64 .f32 := broadcastInDim S2x512x32x64 ![] bcast_S_S2x512x32x64 main_cst_2
  let main_v11 : IVec S2x512x32x64 1 := cmpf .olt main_v9 main_v10
  let main_c_3 : IVec S_ 1 := constantI S_ 1 1#1
  let main_v12 : IVec S_ 1 := (fun x v => Host.reduce IntOp.andi x v reducesTo_S2x512x32x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .f32) (main_arg1 : FVec F S768x2048 .f32) (main_arg2 : FVec F S2x512x32x64 .f32) (main_arg3 : FVec F S2x512x32x64 .f32) (main_arg4 : FVec F S2048x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S2x512x32x64 .f32 := Host.absf main_arg2
  let main_cst_2 : FVec F S_ .f32 := constant S_ .f32 0x7F800000#32
  let main_v10 : FVec F S2x512x32x64 .f32 := broadcastInDim S2x512x32x64 ![] bcast_S_S2x512x32x64 main_cst_2
  let main_v11 : IVec S2x512x32x64 1 := cmpf .olt main_v9 main_v10
  let main_c_3 : IVec S_ 1 := constantI S_ 1 1#1
  let main_v12 : IVec S_ 1 := (fun x v => Host.reduce IntOp.andi x v reducesTo_S2x512x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩
abbrev S2x512x8x64 : Shape := ⟨4, ![2, 512, 8, 64]⟩
abbrev S2x8x512x64 : Shape := ⟨4, ![2, 8, 512, 64]⟩
abbrev S4x256x768 : Shape := ⟨3, ![4, 256, 768]⟩
abbrev S512x512 : Shape := ⟨2, ![512, 512]⟩
abbrev S3x256x768 : Shape := ⟨3, ![3, 256, 768]⟩
abbrev S256x768 : Shape := ⟨2, ![256, 768]⟩
abbrev S4 : Shape := ⟨1, ![4]⟩
abbrev S3 : Shape := ⟨1, ![3]⟩
abbrev S1x512x768 : Shape := ⟨3, ![1, 512, 768]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩
abbrev S1x256x768 : Shape := ⟨3, ![1, 256, 768]⟩
abbrev S1 : Shape := ⟨1, ![1]⟩

abbrev nBuf : Space → Nat
  | .hbm => 39
  | .vmem => 11
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x32x64, .f32⟩
  | .hbm, ⟨3, _⟩ => ⟨S2x512x32x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .f32⟩
  | .hbm, ⟨33, _⟩ => ⟨S2x512x8x64, .bf16⟩
  | .hbm, ⟨34, _⟩ => ⟨S2x8x512x64, .bf16⟩
  | .hbm, ⟨35, _⟩ => ⟨S2x512x8x64, .bf16⟩
  | .hbm, ⟨36, _⟩ => ⟨S2x8x512x64, .bf16⟩
  | .hbm, ⟨37, _⟩ => ⟨S4x256x768, .f32⟩
  | .hbm, ⟨38, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x8x512x64, .bf16⟩
  | .local _ .vmem, ⟨3, _⟩ => ⟨S2x8x512x64, .bf16⟩
  | .local _ .vmem, ⟨4, _⟩ => ⟨S512x768, .f32⟩
  | .local _ .vmem, ⟨5, _⟩ => ⟨S4x256x768, .f32⟩
  | .local _ .vmem, ⟨6, _⟩ => ⟨S512x512, .f32⟩
  | .local _ .vmem, ⟨7, _⟩ => ⟨S4x256x768, .bf16⟩
  | .local _ .vmem, ⟨8, _⟩ => ⟨S3x256x768, .bf16⟩
  | .local _ .vmem, ⟨9, _⟩ => ⟨S256x768, .bf16⟩
  | .local _ .vmem, ⟨10, _⟩ => ⟨S3x256x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_150 : BitVec 32 := 0#32
  let v269 : BitVec 1 := Scalar.cmpi .eq v2 c0_i32_150
  let v270 : BitVec 32 := Scalar.extui v269
  let c0_i32_151 : BitVec 32 := 0#32
  let v271 : BitVec 1 := Scalar.cmpi .ne v270 c0_i32_151
  v271

def k0_dev4 : Nat :=
  let c0_i32_312 : BitVec 32 := 0#32
  let c1_i32_310 : BitVec 32 := 1#32
  let c1_i32_311 : BitVec 32 := 1#32
  let v481 : BitVec 32 := Scalar.muli c1_i32_310 c1_i32_311
  let v482 : BitVec 32 := Scalar.addi c0_i32_312 v481
  v482.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_152 : BitVec 32 := 1#32
  let v272 : BitVec 1 := Scalar.cmpi .eq v2 c1_i32_152
  let v273 : BitVec 32 := Scalar.extui v272
  let c0_i32_153 : BitVec 32 := 0#32
  let v274 : BitVec 1 := Scalar.cmpi .ne v273 c0_i32_153
  v274

def k0_dev5 : Nat :=
  let c0_i32_312 : BitVec 32 := 0#32
  let c0_i32_310 : BitVec 32 := 0#32
  let c1_i32_311 : BitVec 32 := 1#32
  let v481 : BitVec 32 := Scalar.muli c0_i32_310 c1_i32_311
  let v482 : BitVec 32 := Scalar.addi c0_i32_312 v481
  v482.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_154 : BitVec 32 := 2#32
  let v275 : BitVec 1 := Scalar.cmpi .eq v2 c2_i32_154
  let v276 : BitVec 32 := Scalar.extui v275
  let c0_i32_155 : BitVec 32 := 0#32
  let v277 : BitVec 1 := Scalar.cmpi .ne v276 c0_i32_155
  v277

def k0_dev6 : Nat :=
  let c0_i32_312 : BitVec 32 := 0#32
  let c0_i32_310 : BitVec 32 := 0#32
  let c1_i32_311 : BitVec 32 := 1#32
  let v481 : BitVec 32 := Scalar.muli c0_i32_310 c1_i32_311
  let v482 : BitVec 32 := Scalar.addi c0_i32_312 v481
  v482.toNat
def k0_dev7 : Nat :=
  let c0_i32_329 : BitVec 32 := 0#32
  let c1_i32_327 : BitVec 32 := 1#32
  let c1_i32_328 : BitVec 32 := 1#32
  let v497 : BitVec 32 := Scalar.muli c1_i32_327 c1_i32_328
  let v498 : BitVec 32 := Scalar.addi c0_i32_329 v497
  v498.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_156 : BitVec 32 := 3#32
  let v278 : BitVec 1 := Scalar.cmpi .eq v2 c3_i32_156
  let v279 : BitVec 32 := Scalar.extui v278
  let c0_i32_157 : BitVec 32 := 0#32
  let v280 : BitVec 1 := Scalar.cmpi .ne v279 c0_i32_157
  v280

def k0_dev8 : Nat :=
  let c0_i32_312 : BitVec 32 := 0#32
  let c0_i32_310 : BitVec 32 := 0#32
  let c1_i32_311 : BitVec 32 := 1#32
  let v481 : BitVec 32 := Scalar.muli c0_i32_310 c1_i32_311
  let v482 : BitVec 32 := Scalar.addi c0_i32_312 v481
  v482.toNat
def k0_dev9 : Nat :=
  let c0_i32_329 : BitVec 32 := 0#32
  let c1_i32_327 : BitVec 32 := 1#32
  let c1_i32_328 : BitVec 32 := 1#32
  let v497 : BitVec 32 := Scalar.muli c1_i32_327 c1_i32_328
  let v498 : BitVec 32 := Scalar.addi c0_i32_329 v497
  v498.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_284 : BitVec 32 := 0#32
  let v451 : BitVec 1 := Scalar.cmpi .eq v2 c0_i32_284
  let v452 : BitVec 32 := Scalar.extui v451
  let c0_i32_285 : BitVec 32 := 0#32
  let v453 : BitVec 1 := Scalar.cmpi .ne v452 c0_i32_285
  v453

def k0_dev10 : Nat :=
  let c0_i32_312 : BitVec 32 := 0#32
  let c2_i32_310 : BitVec 32 := 2#32
  let c1_i32_311 : BitVec 32 := 1#32
  let v481 : BitVec 32 := Scalar.muli c2_i32_310 c1_i32_311
  let v482 : BitVec 32 := Scalar.addi c0_i32_312 v481
  v482.toNat
def k0_dev11 : Nat :=
  let c0_i32_329 : BitVec 32 := 0#32
  let c3_i32_327 : BitVec 32 := 3#32
  let c1_i32_328 : BitVec 32 := 1#32
  let v497 : BitVec 32 := Scalar.muli c3_i32_327 c1_i32_328
  let v498 : BitVec 32 := Scalar.addi c0_i32_329 v497
  v498.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_286 : BitVec 32 := 1#32
  let v454 : BitVec 1 := Scalar.cmpi .eq v2 c1_i32_286
  let v455 : BitVec 32 := Scalar.extui v454
  let c0_i32_287 : BitVec 32 := 0#32
  let v456 : BitVec 1 := Scalar.cmpi .ne v455 c0_i32_287
  v456

def k0_dev12 : Nat :=
  let c0_i32_312 : BitVec 32 := 0#32
  let c2_i32_310 : BitVec 32 := 2#32
  let c1_i32_311 : BitVec 32 := 1#32
  let v481 : BitVec 32 := Scalar.muli c2_i32_310 c1_i32_311
  let v482 : BitVec 32 := Scalar.addi c0_i32_312 v481
  v482.toNat
def k0_dev13 : Nat :=
  let c0_i32_329 : BitVec 32 := 0#32
  let c3_i32_327 : BitVec 32 := 3#32
  let c1_i32_328 : BitVec 32 := 1#32
  let v497 : BitVec 32 := Scalar.muli c3_i32_327 c1_i32_328
  let v498 : BitVec 32 := Scalar.addi c0_i32_329 v497
  v498.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_288 : BitVec 32 := 2#32
  let v457 : BitVec 1 := Scalar.cmpi .eq v2 c2_i32_288
  let v458 : BitVec 32 := Scalar.extui v457
  let c0_i32_289 : BitVec 32 := 0#32
  let v459 : BitVec 1 := Scalar.cmpi .ne v458 c0_i32_289
  v459

def k0_dev14 : Nat :=
  let c0_i32_312 : BitVec 32 := 0#32
  let c3_i32_310 : BitVec 32 := 3#32
  let c1_i32_311 : BitVec 32 := 1#32
  let v481 : BitVec 32 := Scalar.muli c3_i32_310 c1_i32_311
  let v482 : BitVec 32 := Scalar.addi c0_i32_312 v481
  v482.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_290 : BitVec 32 := 3#32
  let v460 : BitVec 1 := Scalar.cmpi .eq v2 c3_i32_290
  let v461 : BitVec 32 := Scalar.extui v460
  let c0_i32_291 : BitVec 32 := 0#32
  let v462 : BitVec 1 := Scalar.cmpi .ne v461 c0_i32_291
  v462

def k0_dev15 : Nat :=
  let c0_i32_312 : BitVec 32 := 0#32
  let c2_i32_310 : BitVec 32 := 2#32
  let c1_i32_311 : BitVec 32 := 1#32
  let v481 : BitVec 32 := Scalar.muli c2_i32_310 c1_i32_311
  let v482 : BitVec 32 := Scalar.addi c0_i32_312 v481
  v482.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_292 : BitVec 32 := 0#32
  let v463 : BitVec 1 := Scalar.cmpi .eq v2 c0_i32_292
  let v464 : BitVec 32 := Scalar.extui v463
  let c0_i32_293 : BitVec 32 := 0#32
  let v465 : BitVec 1 := Scalar.cmpi .ne v464 c0_i32_293
  v465

def k0_dev16 : Nat :=
  let c0_i32_358 : BitVec 32 := 0#32
  let c1_i32_356 : BitVec 32 := 1#32
  let c1_i32_357 : BitVec 32 := 1#32
  let v522 : BitVec 32 := Scalar.muli c1_i32_356 c1_i32_357
  let v523 : BitVec 32 := Scalar.addi c0_i32_358 v522
  v523.toNat
def k0_dev17 : Nat :=
  let c0_i32_366 : BitVec 32 := 0#32
  let c2_i32_364 : BitVec 32 := 2#32
  let c1_i32_365 : BitVec 32 := 1#32
  let v530 : BitVec 32 := Scalar.muli c2_i32_364 c1_i32_365
  let v531 : BitVec 32 := Scalar.addi c0_i32_366 v530
  v531.toNat
def k0_dev18 : Nat :=
  let c0_i32_374 : BitVec 32 := 0#32
  let c3_i32_372 : BitVec 32 := 3#32
  let c1_i32_373 : BitVec 32 := 1#32
  let v538 : BitVec 32 := Scalar.muli c3_i32_372 c1_i32_373
  let v539 : BitVec 32 := Scalar.addi c0_i32_374 v538
  v539.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_294 : BitVec 32 := 1#32
  let v466 : BitVec 1 := Scalar.cmpi .eq v2 c1_i32_294
  let v467 : BitVec 32 := Scalar.extui v466
  let c0_i32_295 : BitVec 32 := 0#32
  let v468 : BitVec 1 := Scalar.cmpi .ne v467 c0_i32_295
  v468

def k0_dev19 : Nat :=
  let c0_i32_358 : BitVec 32 := 0#32
  let c2_i32_356 : BitVec 32 := 2#32
  let c1_i32_357 : BitVec 32 := 1#32
  let v522 : BitVec 32 := Scalar.muli c2_i32_356 c1_i32_357
  let v523 : BitVec 32 := Scalar.addi c0_i32_358 v522
  v523.toNat
def k0_dev20 : Nat :=
  let c0_i32_366 : BitVec 32 := 0#32
  let c3_i32_364 : BitVec 32 := 3#32
  let c1_i32_365 : BitVec 32 := 1#32
  let v530 : BitVec 32 := Scalar.muli c3_i32_364 c1_i32_365
  let v531 : BitVec 32 := Scalar.addi c0_i32_366 v530
  v531.toNat
def k0_dev21 : Nat :=
  let c0_i32_374 : BitVec 32 := 0#32
  let c0_i32_372 : BitVec 32 := 0#32
  let c1_i32_373 : BitVec 32 := 1#32
  let v538 : BitVec 32 := Scalar.muli c0_i32_372 c1_i32_373
  let v539 : BitVec 32 := Scalar.addi c0_i32_374 v538
  v539.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_296 : BitVec 32 := 2#32
  let v469 : BitVec 1 := Scalar.cmpi .eq v2 c2_i32_296
  let v470 : BitVec 32 := Scalar.extui v469
  let c0_i32_297 : BitVec 32 := 0#32
  let v471 : BitVec 1 := Scalar.cmpi .ne v470 c0_i32_297
  v471

def k0_dev22 : Nat :=
  let c0_i32_358 : BitVec 32 := 0#32
  let c3_i32_356 : BitVec 32 := 3#32
  let c1_i32_357 : BitVec 32 := 1#32
  let v522 : BitVec 32 := Scalar.muli c3_i32_356 c1_i32_357
  let v523 : BitVec 32 := Scalar.addi c0_i32_358 v522
  v523.toNat
def k0_dev23 : Nat :=
  let c0_i32_366 : BitVec 32 := 0#32
  let c0_i32_364 : BitVec 32 := 0#32
  let c1_i32_365 : BitVec 32 := 1#32
  let v530 : BitVec 32 := Scalar.muli c0_i32_364 c1_i32_365
  let v531 : BitVec 32 := Scalar.addi c0_i32_366 v530
  v531.toNat
def k0_dev24 : Nat :=
  let c0_i32_374 : BitVec 32 := 0#32
  let c1_i32_372 : BitVec 32 := 1#32
  let c1_i32_373 : BitVec 32 := 1#32
  let v538 : BitVec 32 := Scalar.muli c1_i32_372 c1_i32_373
  let v539 : BitVec 32 := Scalar.addi c0_i32_374 v538
  v539.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_298 : BitVec 32 := 3#32
  let v472 : BitVec 1 := Scalar.cmpi .eq v2 c3_i32_298
  let v473 : BitVec 32 := Scalar.extui v472
  let c0_i32_299 : BitVec 32 := 0#32
  let v474 : BitVec 1 := Scalar.cmpi .ne v473 c0_i32_299
  v474

def k0_dev25 : Nat :=
  let c0_i32_358 : BitVec 32 := 0#32
  let c0_i32_356 : BitVec 32 := 0#32
  let c1_i32_357 : BitVec 32 := 1#32
  let v522 : BitVec 32 := Scalar.muli c0_i32_356 c1_i32_357
  let v523 : BitVec 32 := Scalar.addi c0_i32_358 v522
  v523.toNat
def k0_dev26 : Nat :=
  let c0_i32_366 : BitVec 32 := 0#32
  let c1_i32_364 : BitVec 32 := 1#32
  let c1_i32_365 : BitVec 32 := 1#32
  let v530 : BitVec 32 := Scalar.muli c1_i32_364 c1_i32_365
  let v531 : BitVec 32 := Scalar.addi c0_i32_366 v530
  v531.toNat
def k0_dev27 : Nat :=
  let c0_i32_374 : BitVec 32 := 0#32
  let c2_i32_372 : BitVec 32 := 2#32
  let c1_i32_373 : BitVec 32 := 1#32
  let v538 : BitVec 32 := Scalar.muli c2_i32_372 c1_i32_373
  let v539 : BitVec 32 := Scalar.addi c0_i32_374 v538
  v539.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S2x512x2048 : Shape := ⟨3, ![2, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x2048, .f32⟩
  | .hbm, ⟨2, _⟩ => ⟨S2x512x32x64, .f32⟩
  | .hbm, ⟨3, _⟩ => ⟨S2x512x32x64, .f32⟩
  | .hbm, ⟨4, _⟩ => ⟨S2048x768, .f32⟩
  | .hbm, ⟨5, _⟩ => ⟨S2x512x2048, .f32⟩
  | .hbm, ⟨6, _⟩ => ⟨S2x512x32x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S512x512, .i1⟩
  | .hbm, ⟨54, _⟩ => ⟨S512x512, .i1⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S_, .i1⟩
  | .hbm, ⟨74, _⟩ => ⟨S512x512, .i1⟩
  | .hbm, ⟨75, _⟩ => ⟨S512x512, .i1⟩
  | .hbm, ⟨76, _⟩ => ⟨S512x512, .i1⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S512x512, .i1⟩
  | .hbm, ⟨84, _⟩ => ⟨S2x32x512x512, .f32⟩
  | .hbm, ⟨85, _⟩ => ⟨S_, .f32⟩
  | .hbm, ⟨86, _⟩ => ⟨S2x32x512x512, .f32⟩
  | .hbm, ⟨87, _⟩ => ⟨S2x32x512x512, .f32⟩
  | .hbm, ⟨88, _⟩ => ⟨S1x1x512x512, .i1⟩
  | .hbm, ⟨89, _⟩ => ⟨S_, .f32⟩
  | .hbm, ⟨90, _⟩ => ⟨S_, .f32⟩
  | .hbm, ⟨91, _⟩ => ⟨S2x32x512x512, .i1⟩
  | .hbm, ⟨92, _⟩ => ⟨S2x32x512x512, .f32⟩
  | .hbm, ⟨93, _⟩ => ⟨S2x32x512x512, .f32⟩
  | .hbm, ⟨94, _⟩ => ⟨S_, .f32⟩
  | .hbm, ⟨95, _⟩ => ⟨S2x32x512, .f32⟩
  | .hbm, ⟨96, _⟩ => ⟨S2x32x512x1, .f32⟩
  | .hbm, ⟨97, _⟩ => ⟨S2x32x512x512, .f32⟩
  | .hbm, ⟨98, _⟩ => ⟨S2x32x512x512, .f32⟩
  | .hbm, ⟨99, _⟩ => ⟨S2x32x512x512, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x32x512, .f32⟩
  | .hbm, ⟨105, _⟩ => ⟨S2x32x512x1, .f32⟩
  | .hbm, ⟨106, _⟩ => ⟨S_, .f32⟩
  | .hbm, ⟨107, _⟩ => ⟨S_, .f32⟩
  | .hbm, ⟨108, _⟩ => ⟨S2x32x512x1, .i1⟩
  | .hbm, ⟨109, _⟩ => ⟨S2x32x512x1, .f32⟩
  | .hbm, ⟨110, _⟩ => ⟨S2x32x512x1, .f32⟩
  | .hbm, ⟨111, _⟩ => ⟨S2x32x512x512, .f32⟩
  | .hbm, ⟨112, _⟩ => ⟨S2x32x512x512, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x32x512x512, .i1⟩
  | .hbm, ⟨117, _⟩ => ⟨S2x32x512x512, .f32⟩
  | .hbm, ⟨118, _⟩ => ⟨S2x32x512x512, .f32⟩
  | .hbm, ⟨119, _⟩ => ⟨S2x32x64x512, .f32⟩
  | .hbm, ⟨120, _⟩ => ⟨S2x512x32x64, .f32⟩
  | .hbm, ⟨121, _⟩ => ⟨S2x512x2048, .f32⟩
  | .hbm, ⟨122, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Precond.lean ====
/- The precondition read: every element of `x`, `Wq` and `K_ext` on every device is a real number. -/
module

public import proofs.«01_k».proof.Defs
public import Idealize.ShloMosaic.Lib.Pointwise
public import Idealize.ShloMosaic.Lib.ReduceAll

@[expose] public section

noncomputable section

namespace Cert.Precond

open Idealize.ShloMosaic
open Idealize.ShloMosaic.Pointwise

/-- The precondition's operations have the shapes they state, read of one device's blocks. -/
instance pre_kernel : Cert.Pre_finite_KernelIdeal.Facts where
  bcast_S_S2x512x768 := by decide
  reducesTo_S2x512x768_S_d0_1_2 := by decide
  h_S_ := by decide
  bcast_S_S768x512 := by decide
  reducesTo_S768x512_S_d0_1 := by decide
  bcast_S_S2x512x32x64 := by decide
  reducesTo_S2x512x32x64_S_d0_1_2_3 := by decide

/-- The precondition's operations have the shapes they state, read of the whole arrays. -/
instance pre_reference : Cert.Pre_finite_ReferenceIdeal.Facts where
  bcast_S_S2x512x768 := by decide
  reducesTo_S2x512x768_S_d0_1_2 := by decide
  h_S_ := by decide
  bcast_S_S768x2048 := by decide
  reducesTo_S768x2048_S_d0_1 := by decide
  bcast_S_S2x512x32x64 := by decide
  reducesTo_S2x512x32x64_S_d0_1_2_3 := by decide

theorem real_of (x : EReal) (h : BitVec.ofBool (decide (max x (-x) < ⊤)) = 1#1) : ∃ r : ℝ, x = (r : EReal) := by
  induction x using EReal.rec with
  | bot => exact absurd h (by simp)
  | top => exact absurd h (by simp)
  | coe r => exact ⟨r, rfl⟩

open Cert.Pre_finite_KernelIdeal in
theorem finite_of (a0 : FVec Ideal S2x512x768 .f32) (a1 : FVec Ideal S768x512 .f32) (a2 a3 : FVec Ideal S2x512x32x64 .f32)
    (a4 : FVec Ideal S512x768 .f32) (h : fn a0 a1 a2 a3 a4 = fun _ => 1#1) :
    (∀ i, ∃ r : ℝ, a0 i = (r : EReal)) ∧ (∀ i, ∃ r : ℝ, a1 i = (r : EReal)) ∧ ∀ i, ∃ r : ℝ, a2 i = (r : EReal) := by
  have h0 := congrFun h ValueIdx.ix0
  dsimp only [fn] at h0
  have and_one : ∀ a b : BitVec 1, IntOp.andi a b = 1#1 → a = 1#1 ∧ b = 1#1 := by decide
  obtain ⟨h01, h2⟩ := and_one _ _ h0
  obtain ⟨h0, h1⟩ := and_one _ _ h01
  refine ⟨fun i => ?_, fun i => ?_, fun i => ?_⟩
  · exact real_of _ (Host.reduce_andi_all _ _ _ _ _ h0 i)
  · exact real_of _ (Host.reduce_andi_all _ _ _ _ _ h1 i)
  · exact real_of _ (Host.reduce_andi_all _ _ _ _ _ h2 i)

end Cert.Precond

end
-- ==== Proof.Held.lean ====
/-
  What a view reads, held: `held c v q x` owns the elements a view touches, at a share, and records the vector the view reads from
  them. A load through the view leaves it, a store through it replaces the vector, a buffer held whole is the family of its
  pieces, and the pieces of a buffer join back to contents chosen by what every piece reads.
-/
module

public import Idealize.ShloMosaic.Lib.StableHlo
public import Idealize.ShloMosaic.Lib.Tactic
public import Idealize.ShloMosaic.Lib.ViewIndex
public import Idealize.ShloMosaic.Lib.Rounds
public import Idealize.ShloMosaic.Lib.Pipeline.RegionTalk

@[expose] public section

noncomputable section

namespace Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- The elements under the view, at the share, holding contents the view reads as `x`. -/
def held (c : Thread nD τ) {sp : Space} {s : Shape} {e : EltTy} (v : View sig c.2.kind sp s e) (q : PosShare TreeShare) (x : s.Idx → Val e) :
    sProp 𝕄 :=
  iprop(∃ f : Buf Val (v.loc c), (v.loc c ↦[v.set]{q} f) ∗ ⌜v.read Val f = x⌝)

section

variable (c : Thread nD τ) {sp : Space} {s s' : Shape} {e : EltTy} (v : View sig c.2.kind sp s e) (q : PosShare TreeShare)

instance held_storable (x : s.Idx → Val e) : BI.Storable (upEmb : UEmb _ 𝕄) (held c v q x) := by unfold held; infer_instance

theorem held_intro (f : Buf Val (v.loc c)) : (v.loc c ↦[v.set]{q} f : sProp 𝕄) ⊢ held c v q (v.read Val f) := by
  unfold held
  iintro H; iexists f; isplitl [H]; · iexact H
  ipureintro; rfl

/-- The same elements read in another order of indexing. -/
theorem held_reshape (h : s'.numel = s.numel) (x : s.Idx → Val e) :
    (held c v q x : sProp 𝕄) ⊢ held c (v.reshape s' h) q (fun i => x (Shape.reshapeEquiv h i)) := by
  unfold held
  iintro ⟨%f, H, %hf⟩
  iexists f
  isplitl [H]
  · rw [View.set_reshape]; iexact H
  · ipureintro; subst hf; rfl

theorem held_unreshape (h : s'.numel = s.numel) (x : s'.Idx → Val e) :
    (held c (v.reshape s' h) q x : sProp 𝕄) ⊢ held c v q (fun i => x ((Shape.reshapeEquiv h).symm i)) := by
  unfold held
  iintro ⟨%f, H, %hf⟩
  iexists f
  isplitl [H]
  · rw [View.set_reshape]; iexact H
  · ipureintro; subst hf; funext i
    show _ = v.read Val f (Shape.reshapeEquiv h ((Shape.reshapeEquiv h).symm i))
    rw [Equiv.apply_symm_apply]

theorem held_elim (x : s.Idx → Val e) : (held c v q x : sProp 𝕄) ⊢ iprop(∃ f : Buf Val (v.loc c), (v.loc c ↦[v.set]{q} f) ∗ ⌜v.read Val f = x⌝) :=
  BI.Entails.refl _

/-- Held elements hold any contents that the view reads alike. -/
theorem held_at (G : Buf Val (v.loc c)) : (held c v q (v.read Val G) : sProp 𝕄) ⊢ v.loc c ↦[v.set]{q} G := by
  unfold held
  iintro ⟨%f, H, %hf⟩
  have hG : (v.loc c ↦[v.set]{q} f : sProp 𝕄) = v.loc c ↦[v.set]{q} G := pointsTo_congr fun i hi => by
    obtain ⟨x, -, rfl⟩ := Finset.mem_map.mp hi
    exact View.eq_of_read_eq (congrFun hf x)
  iapply (Entails.of_eq hG) $$ H

end

section Family

variable (c : Thread nD τ) (b : Ref sig c.2.kind) {T : Type} [Fintype T] (R : T → Rect b.ty.shape) (q : PosShare TreeShare)

/-- A buffer held whole is its pieces, each held at what it reads. -/
theorem held_split (hd : ∀ t t', t ≠ t' → Disjoint (R t).set (R t').set) (hc : ∀ i, ∃ t, i ∈ (R t).set) (f : b.ty.Contents Val) :
    (c.loc b ↦{q} f : sProp 𝕄)
      ⊢ bigSep Finset.univ fun t => held c ((Memref.whole b).access (R t)) q (((Memref.whole b).access (R t)).read Val f) := by
  classical
  have hu : (Finset.univ : Finset (Idx (c.loc b))) = Finset.univ.biUnion fun t => (R t).set := by
    refine (Finset.eq_univ_of_forall fun i => ?_).symm
    obtain ⟨t, ht⟩ := hc i
    exact Finset.mem_biUnion.mpr ⟨t, Finset.mem_univ _, ht⟩
  rw [hu, pointsTo_biUnion Finset.univ _ (fun t _ t' _ h => hd t t' h)]
  refine bigSep_mono fun t _ => ?_
  refine BI.Entails.trans ?_ (held_intro c ((Memref.whole b).access (R t)) q f)
  rw [View.set_slice_whole]
  exact BI.Entails.refl _

/-- Pieces that read alike from one contents are the buffer held whole at it. -/
theorem held_join (hd : ∀ t t', t ≠ t' → Disjoint (R t).set (R t').set) (hc : ∀ i, ∃ t, i ∈ (R t).set) (f : b.ty.Contents Val)
    (x : (t : T) → (R t).shape.Idx → Val b.ty.elt) (hx : ∀ t, x t = ((Memref.whole b).access (R t)).read Val f) :
    (bigSep Finset.univ fun t => held c ((Memref.whole b).access (R t)) q (x t) : sProp 𝕄) ⊢ c.loc b ↦{q} f := by
  classical
  have hu : (Finset.univ : Finset (Idx (c.loc b))) = Finset.univ.biUnion fun t => (R t).set := by
    refine (Finset.eq_univ_of_forall fun i => ?_).symm
    obtain ⟨t, ht⟩ := hc i
    exact Finset.mem_biUnion.mpr ⟨t, Finset.mem_univ _, ht⟩
  rw [hu, pointsTo_biUnion Finset.univ _ (fun t _ t' _ h => hd t t' h)]
  refine bigSep_mono fun t _ => ?_
  rw [hx t]
  refine (held_at c ((Memref.whole b).access (R t)) q f).trans ?_
  rw [View.set_slice_whole]

/-- Pieces held, each at some vector, are the buffer held whole at some contents. -/
theorem held_join_any [∀ e, Nonempty (Val e)] (hd : ∀ t t', t ≠ t' → Disjoint (R t).set (R t').set) (hc : ∀ i, ∃ t, i ∈ (R t).set) :
    (bigSep Finset.univ fun t => iprop(∃ x, held c ((Memref.whole b).access (R t)) q x) : sProp 𝕄)
      ⊢ iprop(∃ f : b.ty.Contents Val, c.loc b ↦{q} f) := by
  classical
  refine (bigSep_exists_pi Finset.univ fun t x => held c ((Memref.whole b).access (R t)) q x).trans ?_
  iintro ⟨%x, H⟩
  have hx : ∀ i, ∃ y : Val b.ty.elt, ∀ t (j : (R t).shape.Idx), (R t).idx j = i → x t j = y := fun i => by
    obtain ⟨t, ht⟩ := hc i
    obtain ⟨j, hj⟩ := (R t).exists_idx_of_mem ht
    refine ⟨x t j, fun t' j' h' => ?_⟩
    have e : t' = t := by
      by_contra hn
      exact Finset.disjoint_left.mp (hd t' t hn) (h' ▸ (R t').toLoadRect.idx_mem j') ht
    subst e
    rw [(R t').emb.injective (h'.trans hj.symm : (R t').idx j' = (R t').idx j)]
  choose f hf using hx
  iexists f
  iapply (held_join c b R q hd hc f x fun t => funext fun j => hf _ t j rfl) $$ H

/-- Held at what it reads is held at some vector: a buffer held whole is its pieces, each at some vector. -/
theorem held_split_any (hd : ∀ t t', t ≠ t' → Disjoint (R t).set (R t').set) (hc : ∀ i, ∃ t, i ∈ (R t).set) (f : b.ty.Contents Val) :
    (c.loc b ↦{q} f : sProp 𝕄) ⊢ bigSep Finset.univ fun t => iprop(∃ x, held c ((Memref.whole b).access (R t)) q x) := by
  have h : ∀ t, (held c ((Memref.whole b).access (R t)) q (((Memref.whole b).access (R t)).read Val f) : sProp 𝕄)
      ⊢ iprop(∃ x, held c ((Memref.whole b).access (R t)) q x) := fun t => by
    iintro H; iexists _; iexact H
  exact (held_split c b R q hd hc f).trans (bigSep_mono fun t _ => h t)

end Family

section Steps

variable [Preorder Lvl] {Λ : Labels} {defs : Defs nD τ sig Val Λ} (𝒱 : Variants) (c : Thread nD τ) (bd : Option 𝒱.V)
variable {sp : Space} {s : Shape} {e : EltTy} {Γ : PendingWaitsCtx sig Ix} (E : Set Name) {α : Type}
variable {Q : α → sProp (MT nD τ sig Ix Val Name U Lvl)}

theorem wp_load_held {cs : CoreSpace} {m : Memref sig c.2.kind cs s e} {r : Rect s} {hl : m.view.LoadsAt r}
    {k : (r.shape.Idx → Val e) → Prog (TpuEff nD τ sig Val Λ c.2) α} {q : PosShare TreeShare} {x : r.shape.Idx → Val e} :
    (held c (m.access r) q x : sProp 𝕄)
      ⊢ iprop((held c (m.access r) q x -∗ wp frame (wpE' defs 𝒱 c bd Γ) E (k x) Q)
        -∗ wp frame (wpE' defs 𝒱 c bd Γ) E (.op (.load m r hl) k) Q) := by
  conv_lhs => unfold held
  iintro ⟨%f, H, %hf⟩ Hk
  iapply (wp_load_rect 𝒱 c bd E (hl := hl) (k := k) (Finset.Subset.refl _)) $$ H
  iintro H
  rw [hf]
  iapply Hk
  unfold held
  iexists f; isplitl [H]; · iexact H
  ipureintro; exact hf

theorem wp_load_whole_rect {cs : CoreSpace} {m : Memref sig c.2.kind cs s e} {r : Rect s} {hl : m.view.LoadsAt r}
    {k : (r.shape.Idx → Val e) → Prog (TpuEff nD τ sig Val Λ c.2) α} {q : PosShare TreeShare} {f : Buf Val (m.view.loc c)} :
    (m.view.loc c ↦{q} f : sProp 𝕄)
      ⊢ iprop(((m.view.loc c ↦{q} f) -∗ wp frame (wpE' defs 𝒱 c bd Γ) E (k ((m.access r).read Val f)) Q)
        -∗ wp frame (wpE' defs 𝒱 c bd Γ) E (.op (.load m r hl) k) Q) :=
  wp_load_rect 𝒱 c bd E (hl := hl) (k := k) (S := Finset.univ) (Finset.subset_univ _)

theorem wp_store_held {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {x : r.shape.Idx → Val e} :
    (held c (m.access r) fullShare x : sProp 𝕄)
      ⊢ iprop((held c (m.access r) fullShare w -∗ wp frame (wpE' defs 𝒱 c bd Γ) E (k ⟨⟩) Q)
        -∗ wp frame (wpE' defs 𝒱 c bd Γ) E (.op (.store m r w Finset.univ hx hm) k) Q) := by
  conv_lhs => unfold held
  iintro ⟨%f, H, %hf⟩ Hk
  iapply (wp_store 𝒱 c bd E (w := w) (hx := hx) (hm := hm) (k := k) (f := f)
    (show (m.access r).setOn Finset.univ ⊆ (m.access r).set from Finset.Subset.refl _)) $$ H
  iintro H
  iapply Hk
  unfold held
  iexists _; isplitl [H]; · iexact H
  ipureintro; exact View.read_write_univ (v := m.access r) f w

/-- A vector held is held at some vector. -/
theorem held_some (v : View sig c.2.kind sp s e) (q : PosShare TreeShare) (x : s.Idx → Val e) :
    (held c v q x : sProp 𝕄) ⊢ iprop(∃ y, held c v q y) := by
  iintro H; iexists x; iexact H

end Steps

end Cert.Held

end
-- ==== Proof.KernelIdealProto.lean ====
/-
  The four devices' protocol. Per device: one barrier cell and thirteen DMA cells.

  * BARRIER. Device `p` signals each other device `c` once and so hands it two landing slots of its own, at any contents:
    slot `slot c p` of its reduce-scatter buffer and the same slot of its all-gather buffer. Every device waits for three.
  * REDUCE-SCATTER. Device `p` sends its partial output rows `ch` (rounded) to device `ch`, for the three `ch ≠ p`, from its send
    buffer's chunk `ch` into slot `slot p ch`. The send cell `ch` hands the chunk back; receive cell `s` of device `c` hands
    slot `s` at the rows device `src c s` sent.
  * ALL-GATHER. Device `p` sends its reduced rows (rounded) to the three others, from one buffer at three read shares. Send cell
    `k` hands share `k` back; receive cell `s` of device `c` hands slot `s` at the rows of device `src c s`.

  `slot p t` is the slot device `p` writes on device `t`; `src c s` the device that writes slot `s` of device `c`.
-/
module

public import proofs.«01_k».proof.Proof.Held
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

/-! ## Who writes which slot -/

abbrev D4 : Type := Dev nD

/-- The device that writes slot `s` of device `c`. -/
def src (c : D4) (s : Fin 3) : D4 := ⟨(c.val + 1 + s.val) % 4, Nat.mod_lt _ (by decide)⟩
/-- The slot device `p` writes on device `t`. -/
def slot (p t : D4) : Fin 3 := ⟨(p.val + 3 - t.val) % 4 % 3, Nat.mod_lt _ (by decide)⟩
/-- The other devices in ascending order. -/
def oth (c : D4) (k : Fin 3) : D4 := if k.val < c.val then ⟨k.val, by have := k.isLt; show _ < 4; omega⟩ else ⟨k.val + 1, by have := k.isLt; show _ < 4; omega⟩

theorem src_slot (p t : D4) : p ≠ t → src t (slot p t) = p := by revert p t; decide
theorem slot_src (c : D4) (s : Fin 3) : slot (src c s) c = s := by revert c s; decide
theorem src_ne (c : D4) (s : Fin 3) : src c s ≠ c := by revert c s; decide
theorem oth_ne (c : D4) (k : Fin 3) : oth c k ≠ c := by revert c k; decide
theorem slot_to (c : D4) (k : Fin 3) : slot c (src c k) = ⟨2 - k.val, by omega⟩ := by revert c k; decide

theorem bigSep_others {M : Type} [URA M] (c : D4) (Φ : D4 → sProp M) :
    bigSep (Finset.univ.erase c) Φ = iprop(Φ (src c 0) ∗ Φ (src c 1) ∗ Φ (src c 2)) := by
  rw [bigSep_eq_bigSepL_of_eq [src c 0, src c 1, src c 2] (by revert c; decide) (by revert c; decide)]
  rfl
theorem bigSep_others' {M : Type} [URA M] (c : D4) (Φ : D4 → sProp M) :
    bigSep (Finset.univ.erase c) Φ = iprop(Φ (oth c 0) ∗ Φ (oth c 1) ∗ Φ (oth c 2)) := by
  rw [bigSep_eq_bigSepL_of_eq [oth c 0, oth c 1, oth c 2] (by revert c; decide) (by revert c; decide)]
  rfl
theorem bigSep_all {M : Type} [URA M] (c : D4) (Φ : D4 → sProp M) :
    bigSep Finset.univ Φ = iprop(Φ c ∗ Φ (oth c 0) ∗ Φ (oth c 1) ∗ Φ (oth c 2)) := by
  rw [bigSep_eq_bigSepL_of_eq [c, oth c 0, oth c 1, oth c 2] (by revert c; decide) (by revert c; decide)]
  rfl
theorem bigSep_three {M : Type} [URA M] (Φ : Fin 3 → sProp M) :
    bigSep Finset.univ Φ = iprop(Φ 0 ∗ Φ 1 ∗ Φ 2) := by
  rw [bigSep_eq_bigSepL_of_eq [0, 1, 2] (by decide) (by decide)]
  rfl

/-! ## Resource algebra -/

abbrev UP : Type := URounds (GSem nD τ sig) Unit
abbrev UT : Type := URounds (GSem nD τ sig) D4
abbrev UU : Type := UP × UT

local notation "𝕄" => MT nD τ sig Unit (Elt F) ℕ UU ℕ

abbrev EP : Emb UP (MT nD τ sig Unit (Elt F) ℕ UU ℕ) := embL
abbrev ER : Emb UT (MT nD τ sig Unit (Elt F) ℕ UU ℕ) := embR

/-! ## Cells and views -/

abbrev qSnd (ch : D4) : DmaSem sig := ⟨6 + ch.val, by have : ch.val < 4 := ch.isLt; show _ < 19; omega⟩
abbrev qRcv (s : Fin 3) : DmaSem sig := ⟨10 + s.val, by have := s.isLt; show _ < 19; omega⟩
abbrev qAgs (s : Fin 3) : DmaSem sig := ⟨13 + s.val, by have := s.isLt; show _ < 19; omega⟩
abbrev qAgr (s : Fin 3) : DmaSem sig := ⟨16 + s.val, by have := s.isLt; show _ < 19; omega⟩

abbrev barCell (c : D4) : GSem nD τ sig := ((c : Thread nD τ), .reg barrier0)
abbrev sndCell (c : D4) (ch : D4) : GSem nD τ sig := ((c : Thread nD τ), .dma (qSnd ch))
abbrev rcvCell (c : D4) (s : Fin 3) : GSem nD τ sig := ((c : Thread nD τ), .dma (qRcv s))
abbrev agsCell (c : D4) (s : Fin 3) : GSem nD τ sig := ((c : Thread nD τ), .dma (qAgs s))
abbrev agrCell (c : D4) (s : Fin 3) : GSem nD τ sig := ((c : Thread nD τ), .dma (qAgr s))

theorem inb4 (i : D4) : ∀ a, (![i.val, 0, 0] : Fin 3 → Nat) a + S1x256x768.size a ≤ S4x256x768.size a := by revert i; decide
theorem inb3 (i : Fin 3) : ∀ a, (![i.val, 0, 0] : Fin 3 → Nat) a + S1x256x768.size a ≤ S3x256x768.size a := by revert i; decide
abbrev R4 (i : D4) : Rect S4x256x768 := Rect.unit (s := S4x256x768) ![i.val, 0, 0] S1x256x768.size (inb4 i)
abbrev R3 (i : Fin 3) : Rect S3x256x768 := Rect.unit (s := S3x256x768) ![i.val, 0, 0] S1x256x768.size (inb3 i)

abbrev outM : Memref sig .tc .vmem S4x256x768 .f32 := Memref.whole cc0_stg5_0
abbrev ctxM : Memref sig .tc .vmem S512x512 .f32 := Memref.whole cc0_scratch0
abbrev sndM : Memref sig .tc .vmem S4x256x768 .bf16 := Memref.whole cc0_scratch1
abbrev rcvM : Memref sig .tc .vmem S3x256x768 .bf16 := Memref.whole cc0_scratch2
abbrev agsM : Memref sig .tc .vmem S256x768 .bf16 := Memref.whole cc0_scratch3
abbrev agrM : Memref sig .tc .vmem S3x256x768 .bf16 := Memref.whole cc0_scratch4

/-- One transfer's credit. -/
abbrev N : ℕ := (agsM : Memref sig .tc .vmem S256x768 .bf16).view.dmaCredit
theorem N_pos : 0 < N := View.dmaCredit_pos _ (by decide)

theorem numel_sq : S256x768.numel = S1x256x768.numel := squeezes_S1x256x768_S256x768.numel_eq

/-- Device `c`'s output rows `ch`. -/
abbrev outH (c ch : D4) (v : Vec F S1x256x768 .f32) : sProp 𝕄 := held (c : Thread nD τ) (outM.access (R4 ch)) fullShare v
abbrev sndH (c ch : D4) (v : Vec F S1x256x768 .bf16) : sProp 𝕄 := held (c : Thread nD τ) (sndM.access (R4 ch)) fullShare v
abbrev rcvH (c : D4) (s : Fin 3) (v : Vec F S1x256x768 .bf16) : sProp 𝕄 := held (c : Thread nD τ) (rcvM.access (R3 s)) fullShare v
abbrev agrH (c : D4) (s : Fin 3) (v : Vec F S1x256x768 .bf16) : sProp 𝕄 := held (c : Thread nD τ) (agrM.access (R3 s)) fullShare v
/-- Device `c`'s all-gather send buffer, whole. -/
abbrev agsP (c : D4) (q : PosShare TreeShare) (v : Vec F S256x768 .bf16) : sProp 𝕄 := agsM.view.loc (c : Thread nD τ) ↦{q} v

/-! ## Contents, over the devices' partial outputs -/

variable (pv : D4 → D4 → Vec F S1x256x768 .f32)

/-- What device `c` sends to device `ch`: its partial output rows `ch`, rounded. -/
def sendv (c ch : D4) : Vec F S1x256x768 .bf16 := k0_pay1 (pv c ch)
/-- Device `c`'s rows reduced over the devices. -/
def red (c : D4) : Vec F S1x256x768 .f32 :=
  k0_pay9 (pv c c) (sendv pv (src c 0) c) (sendv pv (src c 1) c) (sendv pv (src c 2) c)
/-- What device `c` sends in the all-gather. -/
def agv (c : D4) : Vec F S256x768 .bf16 := k0_pay10 (red pv c)
/-- The same rows in the landing slot's shape. -/
def agl (c : D4) : Vec F S1x256x768 .bf16 := fun i => agv pv c ((Shape.reshapeEquiv numel_sq).symm i)
/-- Device `c`'s output rows `ch` at the end. -/
def outv (c ch : D4) : Vec F S1x256x768 .f32 := if ch = c then red pv c else k0_pay11 (agl pv ch)

/-! ## The schedule -/

abbrev tok (k : Fin 3) : PosShare TreeShare := Transfers.shareTokN fullShare k.val

/-- Paid to device `c`'s barrier cell by device `p`. -/
def barPay (c p : D4) : sProp 𝕄 :=
  iprop((∃ v : Vec F S1x256x768 .bf16, rcvH p (slot c p) v) ∗ (∃ v : Vec F S1x256x768 .bf16, agrH p (slot c p) v)
    ∗ reached ER (rcvCell p (slot c p)) 0 ∗ reached ER (agrCell p (slot c p)) 0)
def sndPay (c ch : D4) : sProp 𝕄 := iprop(∃ v : Vec F S1x256x768 .bf16, sndH c ch v)
def rcvPay (c : D4) (s : Fin 3) : sProp 𝕄 := rcvH c s (sendv pv (src c s) c)
def agsPay (c : D4) (k : Fin 3) : sProp 𝕄 := agsP c (tok k) (agv pv c)
def agrPay (c : D4) (s : Fin 3) : sProp 𝕄 := agrH c s (agl pv (src c s))

def dmaPay (c : D4) (n : ℕ) : sProp 𝕄 :=
  if n < 6 then iprop(emp) else if n < 10 then sndPay c ⟨(n - 6) % 4, Nat.mod_lt _ (by decide)⟩
  else if n < 13 then rcvPay pv c ⟨(n - 10) % 3, Nat.mod_lt _ (by decide)⟩
  else if n < 16 then agsPay pv c ⟨(n - 13) % 3, Nat.mod_lt _ (by decide)⟩
  else agrPay pv c ⟨(n - 16) % 3, Nat.mod_lt _ (by decide)⟩

def talkDuties (c : D4) : SemLoc sig → Finset D4
  | .reg _ => Finset.univ.erase c
  | .dma j => if j.val < 6 ∨ j.val = 6 + c.val then ∅ else {0}

def talkRd : Rounds.Schedule (GSem nD τ sig) D4 𝕄 where
  duties g r := if r = 0 ∧ g.1.2 = .tc then talkDuties g.1.1 g.2 else ∅
  unitless _ := False
  amount g _ _ := match g.2 with | .reg _ => 1 | .dma _ => N
  payload g _ d := match g.2 with | .reg _ => barPay g.1.1 d | .dma j => dmaPay pv g.1.1 j.val
  amount_pos g _ _ _ := by
    rcases g with ⟨t, (_ | _)⟩
    · exact Nat.one_pos
    · exact N_pos

instance talkRd_storable (g : GSem nD τ sig) (r : ℕ) (d : D4) :
    BI.Storable (upEmb : UEmb _ 𝕄) ((talkRd (F := F) pv).payload g r d) := by
  rcases g with ⟨t, (s | j)⟩
  · show BI.Storable upEmb (barPay t.1 d)
    unfold barPay; infer_instance
  · show BI.Storable upEmb (dmaPay pv t.1 j.val)
    unfold dmaPay sndPay rcvPay agsPay agrPay
    (repeat' split) <;> infer_instance

section Tables

variable (c : D4)

theorem duties_bar : (talkRd (F := F) pv).duties (barCell c) 0 = Finset.univ.erase c := by
  dsimp only [talkRd]; rw [if_pos ⟨rfl, rfl⟩]; rfl
theorem duties_snd (ch : D4) (h : ch ≠ c) : (talkRd (F := F) pv).duties (sndCell c ch) 0 = {0} := by
  dsimp only [talkRd]
  rw [if_pos ⟨rfl, rfl⟩]
  exact if_neg (by
    show ¬ (6 + ch.val < 6 ∨ 6 + ch.val = 6 + c.val)
    have : ch.val ≠ c.val := fun e => h (Fin.ext e)
    omega)
theorem duties_rcv (s : Fin 3) : (talkRd (F := F) pv).duties (rcvCell c s) 0 = {0} := by
  dsimp only [talkRd]
  rw [if_pos ⟨rfl, rfl⟩]
  exact if_neg (by show ¬ (10 + s.val < 6 ∨ 10 + s.val = 6 + c.val); have : c.val < 4 := c.isLt; omega)
theorem duties_ags (s : Fin 3) : (talkRd (F := F) pv).duties (agsCell c s) 0 = {0} := by
  dsimp only [talkRd]
  rw [if_pos ⟨rfl, rfl⟩]
  exact if_neg (by show ¬ (13 + s.val < 6 ∨ 13 + s.val = 6 + c.val); have : c.val < 4 := c.isLt; omega)
theorem duties_agr (s : Fin 3) : (talkRd (F := F) pv).duties (agrCell c s) 0 = {0} := by
  dsimp only [talkRd]
  rw [if_pos ⟨rfl, rfl⟩]
  exact if_neg (by show ¬ (16 + s.val < 6 ∨ 16 + s.val = 6 + c.val); have : c.val < 4 := c.isLt; omega)
theorem duties_later (g : GSem nD τ sig) : ∀ r, 1 ≤ r → (talkRd (F := F) pv).duties g r = ∅ :=
  fun r hr => if_neg fun h => by omega
/-- The send cell a device does not use has no duty. -/
theorem duties_idle : ∀ r, 0 ≤ r → (talkRd (F := F) pv).duties (sndCell c c) r = ∅ := fun r _ => by
  dsimp only [talkRd]
  by_cases h : r = 0
  · subst h; rw [if_pos ⟨rfl, rfl⟩]; exact if_pos (.inr rfl)
  · exact if_neg fun e => h e.1

theorem amount_bar (d : D4) : (talkRd (F := F) pv).amount (barCell c) 0 d = 1 := rfl
theorem amount_dma (j : DmaSem sig) (d : D4) : (talkRd (F := F) pv).amount ((c : Thread nD τ), .dma j) 0 d = N := rfl

theorem expect_bar : (talkRd (F := F) pv).expect (barCell c) 0 = 3 := by
  unfold Schedule.expect Schedule.amountOf
  rw [duties_bar, Finset.sum_congr rfl (fun d _ => amount_bar pv c d), Finset.sum_const, Finset.card_erase_of_mem (Finset.mem_univ _)]
  rfl
theorem expect_of (j : DmaSem sig) (h : (talkRd (F := F) pv).duties ((c : Thread nD τ), .dma j) 0 = {0}) :
    (talkRd (F := F) pv).expect ((c : Thread nD τ), .dma j) 0 = N := by
  unfold Schedule.expect Schedule.amountOf; rw [h, Finset.sum_singleton, amount_dma]

theorem payload_bar (d : D4) : (talkRd (F := F) pv).payload (barCell c) 0 d = barPay c d := rfl
theorem payload_snd (ch d : D4) : (talkRd (F := F) pv).payload (sndCell c ch) 0 d = sndPay c ch := by
  revert ch; intro ch
  show dmaPay pv c (6 + ch.val) = _
  have h : ch.val < 4 := ch.isLt
  unfold dmaPay
  rw [if_neg (by omega), if_pos (by omega)]
  congr 1
  exact Fin.ext (by show (6 + ch.val - 6) % 4 = ch.val; omega)
theorem payload_rcv (s : Fin 3) (d : D4) : (talkRd (F := F) pv).payload (rcvCell c s) 0 d = rcvPay pv c s := by
  show dmaPay pv c (10 + s.val) = _
  have h := s.isLt
  unfold dmaPay
  rw [if_neg (by omega), if_neg (by omega), if_pos (by omega)]
  congr 1
  exact Fin.ext (by show (10 + s.val - 10) % 3 = s.val; omega)
theorem payload_ags (s : Fin 3) (d : D4) : (talkRd (F := F) pv).payload (agsCell c s) 0 d = agsPay pv c s := by
  show dmaPay pv c (13 + s.val) = _
  have h := s.isLt
  unfold dmaPay
  rw [if_neg (by omega), if_neg (by omega), if_neg (by omega), if_pos (by omega)]
  congr 1
  exact Fin.ext (by show (13 + s.val - 13) % 3 = s.val; omega)
theorem payload_agr (s : Fin 3) (d : D4) : (talkRd (F := F) pv).payload (agrCell c s) 0 d = agrPay pv c s := by
  show dmaPay pv c (16 + s.val) = _
  have h := s.isLt
  unfold dmaPay
  rw [if_neg (by omega), if_neg (by omega), if_neg (by omega), if_neg (by omega)]
  congr 1
  exact Fin.ext (by show (16 + s.val - 16) % 3 = s.val; omega)

theorem rest_bar : bigSep ((talkRd (F := F) pv).duties (barCell c) 0 \ ∅) (fun d => (talkRd (F := F) pv).payload (barCell c) 0 d)
    = bigSep (Finset.univ.erase c) (barPay c) := by
  rw [Finset.sdiff_empty, duties_bar]; rfl
theorem rest_dma (j : DmaSem sig) (P : sProp 𝕄) (h : (talkRd (F := F) pv).duties ((c : Thread nD τ), .dma j) 0 = {0})
    (hp : (talkRd (F := F) pv).payload ((c : Thread nD τ), .dma j) 0 0 = P) :
    bigSep ((talkRd (F := F) pv).duties ((c : Thread nD τ), .dma j) 0 \ ∅) (fun d => (talkRd (F := F) pv).payload ((c : Thread nD τ), .dma j) 0 d) = P := by
  rw [Finset.sdiff_empty, h, bigSep_singleton, hp]

end Tables

/-! ## What each core owes; the levels -/

abbrev oA (c : D4) (k : Fin 3) : CellTallies nD τ sig Unit := tallyAt (agrCell (src c k) (slot c (src c k))) () N
abbrev oR (c : D4) (k : Fin 3) : CellTallies nD τ sig Unit := tallyAt (rcvCell (oth c k) (slot c (oth c k))) () N
abbrev oB (c : D4) (k : Fin 3) : CellTallies nD τ sig Unit := tallyAt (barCell (src c k)) () 1
/-- Owed once the reduce-scatter's sends are out: the all-gather's. -/
def OA (c : D4) : CellTallies nD τ sig Unit := 0 + oA c 2 + oA c 1 + oA c 0
/-- Owed after the barrier's signals. -/
def OR (c : D4) : CellTallies nD τ sig Unit := OA c + oR c 2 + oR c 1 + oR c 0
def O₀ (c : D4) : CellTallies nD τ sig Unit := OR c + oB c 2 + oB c 1 + oB c 0

def L (g : GSem nD τ sig) : Finset Unit := if g.1.2 = .tc then {()} else ∅
/-- Barrier cells at 1, reduce-scatter receive cells at 2, all-gather receive cells at 3, the rest at 0. -/
def lv (g : GSem nD τ sig) (_ : Unit) : ℕ :=
  match g.2 with | .reg _ => 1 | .dma j => if j.val < 10 then 0 else if j.val < 13 then 2 else if j.val < 16 then 0 else 3

theorem L_of_ne (g : GSem nD τ sig) (h : g.1.2 ≠ .tc) : L g = ∅ := if_neg h
theorem L_tc (c : D4) (sm : SemLoc sig) : L ((c : Thread nD τ), sm) = {()} := if_pos rfl
theorem lv_bar (c : D4) : lv (barCell c) () = 1 := rfl
theorem lv_rcv (c : D4) (s : Fin 3) : lv (rcvCell c s) () = 2 := by
  show (if 10 + s.val < 10 then 0 else if 10 + s.val < 13 then 2 else if 10 + s.val < 16 then 0 else 3) = 2
  rw [if_neg (by omega), if_pos (by omega)]
theorem lv_agr (c : D4) (s : Fin 3) : lv (agrCell c s) () = 3 := by
  show (if 16 + s.val < 10 then 0 else if 16 + s.val < 13 then 2 else if 16 + s.val < 16 then 0 else 3) = 3
  rw [if_neg (by omega), if_neg (by omega), if_neg (by omega)]

/-- Everything owed sits above the level. -/
def Above (n : ℕ) (O : CellTallies nD τ sig Unit) : Prop := ∀ g u, 0 < O g u → u ∈ L g ∧ n < lv g u
theorem above_zero (n : ℕ) : Above n 0 := fun _ _ h => absurd h (Nat.lt_irrefl 0)
theorem above_add {n : ℕ} {O : CellTallies nD τ sig Unit} (hO : Above n O) (c : D4) (sm : SemLoc sig) (k : ℕ)
    (h : n < lv ((c : Thread nD τ), sm) ()) : Above n (O + tallyAt ((c : Thread nD τ), sm) () k) := fun g u hg => by
  rw [Pi.add_apply, Finsupp.add_apply, tallyAt_apply] at hg
  by_cases e : g = ((c : Thread nD τ), sm) ∧ u = ()
  · rw [e.1, L_tc]; exact ⟨Finset.mem_singleton_self _, h⟩
  · rw [if_neg e, Nat.add_zero] at hg; exact hO g u hg
theorem above_OA (c : D4) : Above 2 (OA c) :=
  above_add (above_add (above_add (above_zero 2) _ _ _ (by rw [lv_agr]; decide)) _ _ _ (by rw [lv_agr]; decide)) _ _ _ (by rw [lv_agr]; decide)
theorem Above.mono {n n' : ℕ} {O : CellTallies nD τ sig Unit} (h : Above n O) (hn : n' ≤ n) : Above n' O :=
  fun g u hg => ⟨(h g u hg).1, lt_of_le_of_lt hn (h g u hg).2⟩
theorem above_OR (c : D4) : Above 1 (OR c) :=
  above_add (above_add (above_add ((above_OA c).mono (by decide)) _ _ _ (by rw [lv_rcv]; decide)) _ _ _ (by rw [lv_rcv]; decide)) _ _ _
    (by rw [lv_rcv]; decide)

theorem mayWait (c : D4) (sm : SemLoc sig) (O : CellTallies nD τ sig Unit) (n : ℕ) (hl : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hl)
    (fun g u hg => (hO g u hg).2)

end Cert.KernelIdeal.Talk

end
-- ==== Proof.KernelIdealSteps.lean ====
/-
  The kernel's communication, step by step: the invariants every device may consult, one reduce-scatter send, and the all-gather
  tail, each as a program in the device's place with its triple.
-/
module

public import proofs.«01_k».proof.Proof.KernelIdealProto

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## What every device may consult -/

/-- A device's own DMA cells, counted from the first. -/
abbrev osem (i : Fin 13) : SemLoc sig := .dma ⟨6 + i.val, by have := i.isLt; show _ < 19; omega⟩
abbrev ownCell (c : D4) (i : Fin 13) : GSem nD τ sig := ((c : Thread nD τ), osem i)

theorem own_snd (c ch : D4) : ownCell c ⟨ch.val, by have : ch.val < 4 := ch.isLt; omega⟩ = sndCell c ch := rfl
theorem own_rcv (c : D4) (s : Fin 3) : ownCell c ⟨4 + s.val, by omega⟩ = rcvCell c s := by revert c s; decide
theorem own_ags (c : D4) (s : Fin 3) : ownCell c ⟨7 + s.val, by omega⟩ = agsCell c s := by revert c s; decide
theorem own_agr (c : D4) (s : Fin 3) : ownCell c ⟨10 + s.val, by omega⟩ = agrCell c s := by revert c s; decide

variable (pv : D4 → D4 → Vec F S1x256x768 .f32) (K : GSem nD τ sig → ℕ)

/-- Every cell's invariant, under one map of names. -/
def Rec : sProp 𝕄 :=
  iprop((bigSep Finset.univ fun c : D4 => cellInv ER (talkRd pv) (K (barCell c)) (barCell c))
    ∗ (bigSep Finset.univ fun ci : D4 × Fin 13 => cellInv ER (talkRd pv) (K (ownCell ci.1 ci.2)) (ownCell ci.1 ci.2))
    ∗ bigSep Finset.univ fun c : D4 => reached ER (barCell c) 0)

instance Rec_persistent : BI.Persistent (Rec pv K) := by unfold Rec; infer_instance

theorem Rec_bar (c : D4) : Rec pv K ⊢ cellInv ER (talkRd pv) (K (barCell c)) (barCell c) := by
  unfold Rec
  iintro ⟨H, -, -⟩
  iapply (show (bigSep Finset.univ fun c : D4 => cellInv ER (talkRd pv) (K (barCell c)) (barCell c)) ⊢ cellInv ER (talkRd pv) (K (barCell c)) (barCell c)
    from bigSep_elim (Finset.mem_univ c)) $$ H
theorem Rec_reached (c : D4) : Rec pv K ⊢ reached ER (barCell c) 0 := by
  unfold Rec
  iintro ⟨-, -, H⟩
  iapply (show (bigSep Finset.univ fun c : D4 => (reached ER (barCell c) 0 : sProp 𝕄)) ⊢ reached ER (barCell c) 0 from bigSep_elim (Finset.mem_univ c)) $$ H
theorem Rec_own (c : D4) (i : Fin 13) (g : GSem nD τ sig) (h : ownCell c i = g) : Rec pv K ⊢ cellInv ER (talkRd pv) (K g) g := by
  subst h
  unfold Rec
  iintro ⟨-, H, -⟩
  iapply (show (bigSep Finset.univ fun ci : D4 × Fin 13 => cellInv ER (talkRd pv) (K (ownCell ci.1 ci.2)) (ownCell ci.1 ci.2))
    ⊢ cellInv ER (talkRd pv) (K (ownCell c i)) (ownCell c i) from bigSep_elim (Finset.mem_univ (c, i))) $$ H
theorem Rec_snd (c ch : D4) : Rec pv K ⊢ cellInv ER (talkRd pv) (K (sndCell c ch)) (sndCell c ch) := Rec_own pv K c _ _ (own_snd c ch)
theorem Rec_rcv (c : D4) (s : Fin 3) : Rec pv K ⊢ cellInv ER (talkRd pv) (K (rcvCell c s)) (rcvCell c s) := Rec_own pv K c _ _ (own_rcv c s)
theorem Rec_ags (c : D4) (s : Fin 3) : Rec pv K ⊢ cellInv ER (talkRd pv) (K (agsCell c s)) (agsCell c s) := Rec_own pv K c _ _ (own_ags c s)
theorem Rec_agr (c : D4) (s : Fin 3) : Rec pv K ⊢ cellInv ER (talkRd pv) (K (agrCell c s)) (agrCell c s) := Rec_own pv K c _ _ (own_agr c s)

/-! ## Printed evidence, in the chunk -/

theorem packed4 (i : D4) : (R4 i).PackedRows (EltTy.packing .bf16) := by
  have h : i.val = 0 ∨ i.val = 1 ∨ i.val = 2 ∨ i.val = 3 := by have : i.val < 4 := i.isLt; omega
  rcases h with h | h | h | h
  · obtain rfl : i = 0 := Fin.ext h; exact packedbf16_S4x256x768_S1x256x768_0_0_0
  · obtain rfl : i = 1 := Fin.ext h; exact packedbf16_S4x256x768_S1x256x768_1_0_0
  · obtain rfl : i = 2 := Fin.ext h; exact packedbf16_S4x256x768_S1x256x768_2_0_0
  · obtain rfl : i = 3 := Fin.ext h; exact packedbf16_S4x256x768_S1x256x768_3_0_0
theorem words4 (i : D4) : (R4 i).WholeWords (EltTy.packing .bf16) := by
  have h : i.val = 0 ∨ i.val = 1 ∨ i.val = 2 ∨ i.val = 3 := by have : i.val < 4 := i.isLt; omega
  rcases h with h | h | h | h
  · obtain rfl : i = 0 := Fin.ext h; exact wordsbf16_S4x256x768_S1x256x768_0_0_0
  · obtain rfl : i = 1 := Fin.ext h; exact wordsbf16_S4x256x768_S1x256x768_1_0_0
  · obtain rfl : i = 2 := Fin.ext h; exact wordsbf16_S4x256x768_S1x256x768_2_0_0
  · obtain rfl : i = 3 := Fin.ext h; exact wordsbf16_S4x256x768_S1x256x768_3_0_0
theorem words3 (i : Fin 3) : (R3 i).WholeWords (EltTy.packing .bf16) := by
  have h : i.val = 0 ∨ i.val = 1 ∨ i.val = 2 := by omega
  rcases h with h | h | h
  · obtain rfl : i = 0 := Fin.ext h; exact wordsbf16_S3x256x768_S1x256x768_0_0_0
  · obtain rfl : i = 1 := Fin.ext h; exact wordsbf16_S3x256x768_S1x256x768_1_0_0
  · obtain rfl : i = 2 := Fin.ext h; exact wordsbf16_S3x256x768_S1x256x768_2_0_0

/-- A chunk of the send buffer, and a slot of either landing buffer, as the copies address them. -/
abbrev sndSq (ch : D4) : Memref sig .tc .vmem S256x768 .bf16 := (sndM.slice (R4 ch) (fun _ => rfl)).squeeze S256x768 squeezes_S1x256x768_S256x768
abbrev rcvSq (s : Fin 3) : Memref sig .tc .vmem S256x768 .bf16 := (rcvM.slice (R3 s) (fun _ => rfl)).squeeze S256x768 squeezes_S1x256x768_S256x768
abbrev agrSq (s : Fin 3) : Memref sig .tc .vmem S256x768 .bf16 := (agrM.slice (R3 s) (fun _ => rfl)).squeeze S256x768 squeezes_S1x256x768_S256x768

theorem word_snd (ch : D4) : (sndSq ch).view.WordExact :=
  ((Memref.isWhole_whole cc0_scratch1).wordExact_slice rfl _ (words4 ch)).reshape _ _
theorem word_rcv (s : Fin 3) : (rcvSq s).view.WordExact :=
  ((Memref.isWhole_whole cc0_scratch2).wordExact_slice rfl _ (words3 s)).reshape _ _
theorem word_agr (s : Fin 3) : (agrSq s).view.WordExact :=
  ((Memref.isWhole_whole cc0_scratch4).wordExact_slice rfl _ (words3 s)).reshape _ _
theorem word_ags : (agsM : Memref sig .tc .vmem S256x768 .bf16).view.WordExact := (Memref.isWhole_whole cc0_scratch3).wordExact
theorem stores_snd (ch : D4) : (sndM.access (R4 ch)).Stores Finset.univ :=
  View.stores_vmem h_S1x256x768 ((Memref.isWhole_whole cc0_scratch1).storeExact_slice rfl _ (packed4 ch)) (fun _ => rfl)

abbrev KProg (F : FTy → Type) : Type 1 := Prog (TpuEff nD τ sig (Elt F) Λ₀ .tc) PUnit

/-- One reduce-scatter send: output rows `ch`, rounded into the send buffer, go to slot `s` of device `ch`. -/
def rsProg (ch : D4) (s : Fin 3) : KProg F :=
  .op (.load outM (R4 ch).toLoadRect (View.loadsAt_vmem h_S1x256x768)) fun v =>
  .op (.load sndM (R4 ch).toLoadRect (View.loadsAt_vmem h_S1x256x768)) fun _ =>
  .op (.store sndM (R4 ch) (k0_pay1 v) Finset.univ (stores_snd ch) (.inl rfl)) fun _ =>
  .op (.enqueueDma (sndSq ch) (.remote (Dev.tc ch) (rcvSq s) (.dma (qSnd ch))) (.dma (qRcv s)) (word_snd ch) (word_rcv s)
    ⟨⟨rfl, Or.inl rfl⟩, trivial⟩) fun _ => .ret ⟨⟩

/-! ## One reduce-scatter send -/

/-- What the `k`-th send uses up: the send chunk, the slot it lands in, the duties it pays. -/
def rsIn (c : D4) (k : Fin 3) : sProp 𝕄 :=
  iprop((∃ v : Vec F S1x256x768 .bf16, sndH c (oth c k) v) ∗ (∃ v : Vec F S1x256x768 .bf16, rcvH (oth c k) (slot c (oth c k)) v)
    ∗ dutyTok ER (sndCell c (oth c k)) 0 0 ∗ reached ER (sndCell c (oth c k)) 0
    ∗ dutyTok ER (rcvCell (oth c k) (slot c (oth c k))) 0 0 ∗ reached ER (rcvCell (oth c k) (slot c (oth c k))) 0)
/-- What it leaves: the credit of its send cell. -/
def rsOut (c : D4) (k : Fin 3) : sProp 𝕄 := cred (tallyAt (sndCell c (oth c k)) () N)

theorem credit_snd (ch : D4) : (sndSq ch).view.dmaCredit = N := rfl
theorem credit_rcv (s : Fin 3) : (rcvSq s).view.dmaCredit = N := rfl
theorem credit_agr (s : Fin 3) : (agrSq s).view.dmaCredit = N := rfl
theorem credit_ags : (agsM : Memref sig .tc .vmem S256x768 .bf16).view.dmaCredit = N := rfl
theorem amount_rcv (s : Fin 3) (q : DmaSem sig) : (rcvSq s).view.amount (.dma q) = N := rfl
theorem amount_agr (s : Fin 3) (q : DmaSem sig) : (agrSq s).view.amount (.dma q) = N := rfl

/-- What a copy writes into a slot: the chunk as the slot's shape reads it. -/
theorem rcv_landed (c : D4) (s : Fin 3) (w : S256x768.Idx → Elt F .bf16) (fd : Buf (Elt F) ((rcvSq s).view.loc (c : Thread nD τ))) :
    ((rcvSq s).view.loc (c : Thread nD τ) ↦[(rcvSq s).view.set]{fullShare} (rcvSq s).view.write (Elt F) fd w Finset.univ : sProp 𝕄)
      ⊢ rcvH c s (fun i => w ((Shape.reshapeEquiv numel_sq).symm i)) := by
  refine (held_intro (c : Thread nD τ) (rcvSq s).view fullShare _).trans ?_
  rw [View.read_write_univ (v := (rcvSq s).view) fd w]
  exact held_unreshape (c : Thread nD τ) (rcvM.access (R3 s)) fullShare numel_sq w
theorem agr_landed (c : D4) (s : Fin 3) (w : S256x768.Idx → Elt F .bf16) (fd : Buf (Elt F) ((agrSq s).view.loc (c : Thread nD τ))) :
    ((agrSq s).view.loc (c : Thread nD τ) ↦[(agrSq s).view.set]{fullShare} (agrSq s).view.write (Elt F) fd w Finset.univ : sProp 𝕄)
      ⊢ agrH c s (fun i => w ((Shape.reshapeEquiv numel_sq).symm i)) := by
  refine (held_intro (c : Thread nD τ) (agrSq s).view fullShare _).trans ?_
  rw [View.read_write_univ (v := (agrSq s).view) fd w]
  exact held_unreshape (c : Thread nD τ) (agrM.access (R3 s)) fullShare numel_sq w

variable {defs : Defs nD τ sig (Elt F) Λ₀} (𝒱 : Variants) (bd : Option 𝒱.V)

theorem wp_rs (c : D4) (k : Fin 3) (O : CellTallies nD τ sig Unit) {O₀ : CellTallies nD τ sig Unit} (hO : O₀ = O + oR c k) (W : Waits sig Unit)
    (Q : PUnit → sProp 𝕄) :
    iprop(Rec pv K ∗ outH c (oth c k) (pv c (oth c k)) ∗ rsIn c k ∗ owes (c : Thread nD τ) O₀ W
        ∗ ((outH c (oth c k) (pv c (oth c k)) ∗ rsOut c k ∗ owes (c : Thread nD τ) O W) -∗ Q ⟨⟩))
      ⊢ wp frame (wpE defs 𝒱 (c : Thread nD τ) bd) Set.univ (rsProg (F := F) (oth c k) (slot c (oth c k))) Q := by
  have hne : oth c k ≠ c := oth_ne c k
  have hsrc : src (oth c k) (slot c (oth c k)) = c := src_slot c (oth c k) hne.symm
  unfold rsIn rsProg
  generalize hch : oth c k = ch at *
  generalize hs : slot c ch = s at *
  iintro ⟨#HR, Ho, ⟨⟨%v0, Hs⟩, ⟨%v1, Hd⟩, Ht1, #Hr1, Ht2, #Hr2⟩, HO, Hk⟩
  iapply (wp_load_held 𝒱 (c : Thread nD τ) bd Set.univ (m := outM) (r := R4 ch)) $$ Ho
  iintro Ho
  iapply (wp_load_held 𝒱 (c : Thread nD τ) bd Set.univ (m := sndM) (r := R4 ch)) $$ Hs
  iintro Hs
  iapply (wp_store_held 𝒱 (c : Thread nD τ) bd Set.univ (m := sndM) (r := R4 ch)) $$ Hs
  iintro Hs
  ihave Hs' := ((held_reshape (c : Thread nD τ) (sndM.access (R4 ch)) fullShare numel_sq _).trans (held_elim _ _ _ _)) $$ Hs
  ihave Hd' := ((held_reshape (ch : Thread nD τ) (rcvM.access (R3 s)) fullShare numel_sq _).trans (held_elim _ _ _ _)) $$ Hd
  icases Hs' with ⟨%fs, Hs, %hfs⟩
  icases Hd' with ⟨%fd, Hd, -⟩
  ihave #HI1 := (Rec_snd pv K c ch) $$ HR
  ihave #HI2 := (Rec_rcv pv K ch s) $$ HR
  iapply (Rounds.wp_send_pointsTo 𝒱 ER (talkRd pv) (c : Thread nD τ) bd (c' := (ch : Thread nD τ)) (src := sndSq ch) (dst := rcvSq s)
      (sS := .dma (qSnd ch)) (sem := .dma (qRcv s)) (q := fullShare) (fs := fs) (fd := fd) (κ₁ := K (sndCell c ch)) (κ₂ := K (rcvCell ch s))
      (r₁ := 0) (r₂ := 0) (d₁ := 0) (d₂ := 0)
      (by rw [duties_snd pv c ch hne]; exact Finset.mem_singleton_self _) (by rw [duties_rcv]; exact Finset.mem_singleton_self _)
      () () N (amount_rcv s _) (amount_dma pv c _ 0) (amount_dma pv ch _ 0) O (by subst hch hs; exact hO) (W := W)
      (by
        rw [payload_snd]; unfold sndPay
        refine (held_intro (c : Thread nD τ) (sndSq ch).view fullShare fs).trans ?_
        refine (held_unreshape (c : Thread nD τ) (sndM.access (R4 ch)) fullShare numel_sq _).trans ?_
        exact held_some (c : Thread nD τ) _ fullShare _)
      (by
        rw [payload_rcv]; unfold rcvPay
        refine (rcv_landed ch s _ fd).trans ?_
        refine Entails.of_eq (congrArg (rcvH ch s) ?_)
        rw [hsrc]
        funext i
        show (sndSq ch).view.read (Elt F) fs _ = _
        refine (congrFun hfs _).trans ?_
        show k0_pay1 (pv c ch) _ = sendv pv c ch i
        exact congrArg (k0_pay1 (pv c ch)) (Equiv.apply_symm_apply _ i))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk
  isplitl [Ho]; · iexact Ho
  isplitl [Hc]
  · unfold rsOut; rw [hch]; iexact Hc
  iexact HO

/-! ## The all-gather tail -/

abbrev RZ : Rect S256x768 := Rect.unit (s := S256x768) ![0, 0] S256x768.size inb_S256x768_S256x768_0_0

theorem stores_out (i : D4) : (outM.access (R4 i)).Stores Finset.univ := View.stores_vmem_bits_univ h_S1x256x768 rfl
theorem stores_ags : (agsM.access RZ).Stores Finset.univ :=
  View.stores_vmem h_S256x768 ((Memref.isWhole_whole cc0_scratch3).storeExact_slice rfl _ packedbf16_S256x768_S256x768_0_0) (fun _ => rfl)

/-- The reduce-scatter's waits: the rows received are added to the device's own and the sum rounded into the send buffer. -/
def agReduce (c : D4) : KProg F :=
  .op (.waitDma2 (qRcv 0) (rcvSq 0) (rcvSq 0) (word_rcv 0) (word_rcv 0)) fun _ =>
  .op (.waitDma2 (qRcv 1) (rcvSq 1) (rcvSq 1) (word_rcv 1) (word_rcv 1)) fun _ =>
  .op (.waitDma2 (qRcv 2) (rcvSq 2) (rcvSq 2) (word_rcv 2) (word_rcv 2)) fun _ =>
  .op (.load outM (R4 c).toLoadRect (View.loadsAt_vmem h_S1x256x768)) fun x =>
  .op (.load rcvM (R3 0).toLoadRect (View.loadsAt_vmem h_S1x256x768)) fun r0 =>
  .op (.load rcvM (R3 1).toLoadRect (View.loadsAt_vmem h_S1x256x768)) fun r1 =>
  .op (.load rcvM (R3 2).toLoadRect (View.loadsAt_vmem h_S1x256x768)) fun r2 =>
  .op (.load outM (R4 c).toLoadRect (View.loadsAt_vmem h_S1x256x768)) fun _ =>
  .op (.store outM (R4 c) (k0_pay9 x r0 r1 r2) Finset.univ (stores_out c) (.inl rfl)) fun _ =>
  .op (.load outM (R4 c).toLoadRect (View.loadsAt_vmem h_S1x256x768)) fun y =>
  .op (.load agsM RZ.toLoadRect (View.loadsAt_vmem h_S256x768)) fun _ =>
  .op (.store agsM RZ (k0_pay10 y) Finset.univ stores_ags (.inl rfl)) fun _ => .ret ⟨⟩

/-- One all-gather send, to slot `s` of device `ch`, counted on send cell `k`; the `k`-th one of device `c`. -/
def agSendTo (ch : D4) (s k : Fin 3) : KProg F :=
  .op (.enqueueDma agsM (.remote (Dev.tc ch) (agrSq s) (.dma (qAgs k))) (.dma (qAgr s)) word_ags (word_agr s) ⟨⟨rfl, Or.inl rfl⟩, trivial⟩) fun _ => .ret ⟨⟩
abbrev agSend (c : D4) (k : Fin 3) : KProg F := agSendTo (src c k) (slot c (src c k)) k

/-- The rows of the device that writes slot `s`, fetched into the output. -/
def agFetch (c : D4) (s : Fin 3) : KProg F :=
  .op (.waitDma2 (qAgr s) (agrSq s) (agrSq s) (word_agr s) (word_agr s)) fun _ =>
  .op (.load agrM (R3 s).toLoadRect (View.loadsAt_vmem h_S1x256x768)) fun g =>
  .op (.load outM (R4 (src c s)).toLoadRect (View.loadsAt_vmem h_S1x256x768)) fun _ =>
  .op (.store outM (R4 (src c s)) (k0_pay11 g) Finset.univ (stores_out _) (.inl rfl)) fun _ => .ret ⟨⟩

/-- The waits for the device's own sends. -/
def sndDrain (c : D4) (k : Fin 3) : KProg F :=
  .op (.waitDma2 (qSnd (oth c k)) (sndSq (oth c k)) (sndSq (oth c k)) (word_snd _) (word_snd _)) fun _ => .ret ⟨⟩
def agsDrain (c : D4) (k : Fin 3) : KProg F :=
  .op (.waitDma2 (qAgs k) (agrSq (slot c (src c k))) agsM (word_agr _) word_ags) fun _ => .ret ⟨⟩

/-- A step done at 0, 1 and 2. -/
def thrice (p : Fin 3 → KProg F) : KProg F := p 0 >>= fun _ => p 1 >>= fun _ => p 2

/-- From the reduce-scatter's waits on: the rows are reduced, rounded and sent to the others, the others' rows fetched, and every
    send waited for. -/
def agProg (c : D4) : KProg F :=
  agReduce c >>= fun _ => thrice (agSend c) >>= fun _ => thrice (agFetch c) >>= fun _ => thrice (sndDrain c) >>= fun _ => thrice (agsDrain c)

/-- A wait for everything a DMA cell of the device's own is to receive: its one payload comes out. -/
theorem wp_own_wait (c : D4) (j : DmaSem sig) (P : sProp 𝕄) (hd : (talkRd (F := F) pv).duties ((c : Thread nD τ), .dma j) 0 = {0})
    (hp : (talkRd (F := F) pv).payload ((c : Thread nD τ), .dma j) 0 0 = P) (n : ℕ) (hl : lv ((c : Thread nD τ), .dma j) () ≤ n)
    {O : CellTallies nD τ sig Unit} (hO : Above n O) {sp sp' : Space} {s s' : Shape} {e e' : EltTy}
    {a : Memref sig .tc sp' s' e'} {b : Memref sig .tc sp s e} {ha : a.view.WordExact} {hb : b.view.WordExact} (hN : b.view.dmaCredit = N)
    {k : PUnit → KProg F} {Q : PUnit → sProp 𝕄} :
    iprop(cellInv ER (talkRd pv) (K ((c : Thread nD τ), .dma j)) ((c : Thread nD τ), .dma j) ∗ levAts L lv
        ∗ cred (tallyAt ((c : Thread nD τ), .dma j) () N) ∗ atPos ER ((c : Thread nD τ), .dma j) 0 ∅ 0 ∗ (∃ W, owes (c : Thread nD τ) O W))
      ⊢ iprop((((∃ W, owes (c : Thread nD τ) O W) ∗ atPos ER ((c : Thread nD τ), .dma j) 1 ∅ 0 ∗ P)
            -∗ wp frame (wpE defs 𝒱 (c : Thread nD τ) bd) Set.univ (k ⟨⟩) Q)
          -∗ wp frame (wpE defs 𝒱 (c : Thread nD τ) bd) Set.univ (.op (.waitDma2 j a b ha hb) k) Q) := by
  iintro ⟨#HI, #Hlev, Hc, Hat, ⟨%W, HO⟩⟩ Hk
  rw [← hN]
  iapply (Rounds.wp_wait_rest_token 𝒱 ER (talkRd pv) (c : Thread nD τ) bd (κ := K ((c : Thread nD τ), .dma j))
      (wpE_waitDma2_eq (src := a) (dst := b) 𝒱 (c : Thread nD τ) bd Set.univ) (Set.mem_univ _) () (O := O) (W := W) (R := 0) (m := 0) (T := ∅)
      ((Nat.zero_add _).trans (hN.trans (expect_of pv c j hd).symm))) $$ [Hc Hat HO]
  · isplitr; · iexact HI
    isplitl [Hc]; · iexact Hc
    isplitl [HO]; · iexact HO
    isplitr [Hat]
    · iapply (mayWait c (.dma j) O n hl hO); iexact Hlev
    iexact Hat
  iintro ⟨HO, Hat, -, HP⟩
  ihave HP := (Entails.of_eq (rest_dma pv c j P hd hp)) $$ HP
  iapply Hk
  isplitl [HO]; · iexists _; iexact HO
  isplitl [Hat]; · iexact Hat
  iexact HP

/-- What the `k`-th all-gather send uses up beside a share of the buffer. -/
def agIn (c : D4) (k : Fin 3) : sProp 𝕄 :=
  iprop((∃ v : Vec F S1x256x768 .bf16, agrH (src c k) (slot c (src c k)) v)
    ∗ dutyTok ER (agsCell c k) 0 0 ∗ reached ER (agsCell c k) 0
    ∗ dutyTok ER (agrCell (src c k) (slot c (src c k))) 0 0 ∗ reached ER (agrCell (src c k) (slot c (src c k))) 0)

theorem wp_ag_send (c : D4) (k : Fin 3) (O : CellTallies nD τ sig Unit) {O₀ : CellTallies nD τ sig Unit} (hO : O₀ = O + oA c k)
    {Q : PUnit → sProp 𝕄} :
    iprop(Rec pv K ∗ agsP c (tok k) (agv pv c) ∗ agIn c k ∗ (∃ W, owes (c : Thread nD τ) O₀ W))
      ⊢ iprop((((∃ W, owes (c : Thread nD τ) O W) ∗ cred (tallyAt (agsCell c k) () N)) -∗ Q ⟨⟩)
          -∗ wp frame (wpE defs 𝒱 (c : Thread nD τ) bd) Set.univ (agSend (F := F) c k) Q) := by
  have hne : src c k ≠ c := src_ne c k
  have hsrc : src (src c k) (slot c (src c k)) = c := src_slot c (src c k) hne.symm
  unfold agIn agSend
  generalize hch : src c k = ch at *
  generalize hs : slot c ch = s at *
  unfold agSendTo
  iintro ⟨#HR, Hs, ⟨⟨%v1, Hd⟩, Ht1, #Hr1, Ht2, #Hr2⟩, ⟨%W, HO⟩⟩ Hk
  ihave Hd' := ((held_reshape (ch : Thread nD τ) (agrM.access (R3 s)) fullShare numel_sq _).trans (held_elim _ _ _ _)) $$ Hd
  icases Hd' with ⟨%fd, Hd, -⟩
  ihave #HI1 := (Rec_ags pv K c k) $$ HR
  ihave #HI2 := (Rec_agr pv K ch s) $$ HR
  have hset : (agsM : Memref sig .tc .vmem S256x768 .bf16).view.set = Finset.univ := View.set_whole _
  iapply (Rounds.wp_send_pointsTo 𝒱 ER (talkRd pv) (c : Thread nD τ) bd (c' := (ch : Thread nD τ)) (src := agsM) (dst := agrSq s)
      (sS := .dma (qAgs k)) (sem := .dma (qAgr s)) (q := tok k) (fs := agv pv c) (fd := fd) (κ₁ := K (agsCell c k)) (κ₂ := K (agrCell ch s))
      (r₁ := 0) (r₂ := 0) (d₁ := 0) (d₂ := 0)
      (by rw [duties_ags]; exact Finset.mem_singleton_self _) (by rw [duties_agr]; exact Finset.mem_singleton_self _)
      () () N (amount_agr s _) (amount_dma pv c _ 0) (amount_dma pv ch _ 0) O (by subst hch hs; exact hO) (W := W)
      (by rw [payload_ags, hset]; exact BI.Entails.refl _)
      (by
        rw [payload_agr]; unfold agrPay
        refine (agr_landed ch s _ fd).trans ?_
        rw [hsrc]
        exact Entails.of_eq (congrArg (agrH ch s) (funext fun i => rfl)))) $$ [Hs Hd HO Ht1 Ht2]
  · isplitr; · iexact HI1
    isplitr; · iexact HI2
    isplitl [Hs]; · rw [hset]; iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [HO]; · iexists _; iexact HO
  iexact Hc

theorem lv_snd (c ch : D4) : lv (sndCell c ch) () = 0 := by
  show (if 6 + ch.val < 10 then 0 else if 6 + ch.val < 13 then 2 else if 6 + ch.val < 16 then 0 else 3) = 0
  have : ch.val < 4 := ch.isLt
  rw [if_pos (by omega)]
theorem lv_ags (c : D4) (s : Fin 3) : lv (agsCell c s) () = 0 := by
  show (if 13 + s.val < 10 then 0 else if 13 + s.val < 13 then 2 else if 13 + s.val < 16 then 0 else 3) = 0
  rw [if_neg (by omega), if_neg (by omega), if_pos (by omega)]

theorem range_three {M : Type} [URA M] (Φ : ℕ → sProp M) : bigSep (Finset.range 3) Φ = iprop(Φ 0 ∗ Φ 1 ∗ Φ 2) := by
  rw [bigSep_eq_bigSepL_of_eq [0, 1, 2] (by decide) (by decide)]
  rfl

theorem ags_written (f w : Vec F S256x768 .bf16) : (agsM.access RZ).write (Elt F) f w Finset.univ = w :=
  Memref.write_access_unit_zero_univ (Elt F) cc0_scratch3 (by decide) inb_S256x768_S256x768_0_0 f w

theorem pair3 (A B : Fin 3 → sProp 𝕄) :
    iprop((bigSep Finset.univ A) ∗ bigSep Finset.univ B) ⊢ bigSep Finset.univ fun k => iprop(A k ∗ B k) :=
  Entails.of_eq (bigSep_sep _ _ _).symm
theorem unpair3 (A B : Fin 3 → sProp 𝕄) :
    (bigSep Finset.univ fun k => iprop(A k ∗ B k)) ⊢ iprop((bigSep Finset.univ A) ∗ bigSep Finset.univ B) :=
  Entails.of_eq (bigSep_sep _ _ _)

/-- The send buffer at three read shares and what remains. -/
theorem ags_split (c : D4) (v : Vec F S256x768 .bf16) :
    (agsP c fullShare v : sProp 𝕄) ⊢ iprop(agsP c (Transfers.shareDrop fullShare 3) v ∗ bigSep Finset.univ fun k : Fin 3 => agsP c (tok k) v) := by
  refine (Transfers.pointsTo_toks_range fullShare 3).1.trans ?_
  rw [range_three, bigSep_three]
  exact BI.Entails.refl _
theorem ags_join (c : D4) (v : Vec F S256x768 .bf16) :
    iprop(agsP c (Transfers.shareDrop fullShare 3) v ∗ bigSep Finset.univ fun k : Fin 3 => agsP c (tok k) v) ⊢ (agsP c fullShare v : sProp 𝕄) := by
  refine BI.Entails.trans ?_ (Transfers.pointsTo_toks_range fullShare 3).2
  rw [range_three, bigSep_three]
  exact BI.Entails.refl _

theorem wp_agReduce (c : D4) {Q : PUnit → sProp 𝕄} :
    iprop(Rec pv K ∗ levAts L lv
        ∗ (bigSep Finset.univ fun s : Fin 3 => iprop(cred (tallyAt (rcvCell c s) () N) ∗ atPos ER (rcvCell c s) 0 ∅ 0))
        ∗ outH c c (pv c c) ∗ (∃ v : Vec F S256x768 .bf16, agsP c fullShare v) ∗ (∃ W, owes (c : Thread nD τ) (OA c) W))
      ⊢ iprop((((∃ W, owes (c : Thread nD τ) (OA c) W) ∗ (bigSep Finset.univ fun s : Fin 3 => iprop(atPos ER (rcvCell c s) 1 ∅ 0 ∗ rcvPay pv c s))
            ∗ outH c c (red pv c) ∗ agsP c fullShare (agv pv c)) -∗ Q ⟨⟩)
          -∗ wp frame (wpE defs 𝒱 (c : Thread nD τ) bd) Set.univ (agReduce (F := F) c) Q) := by
  unfold agReduce
  simp only [bigSep_three]
  iintro ⟨#HR, #Hlev, ⟨⟨Hc0, Ha0⟩, ⟨Hc1, Ha1⟩, ⟨Hc2, Ha2⟩⟩, Ho, ⟨%va, Hags⟩, HO⟩ Hk
  iapply (wp_own_wait pv K 𝒱 bd c (qRcv 0) (rcvPay pv c 0) (duties_rcv pv c 0) (payload_rcv pv c 0 0) 2 (le_of_eq (lv_rcv c 0)) (above_OA c) (credit_rcv 0)) $$ [Hc0 Ha0 HO]
  · isplitr; · iapply (Rec_rcv pv K c 0); iexact HR
    isplitr; · iexact Hlev
    isplitl [Hc0]; · iexact Hc0
    isplitl [Ha0] <;> iassumption
  iintro ⟨HO, Ha0, Hr0⟩
  iapply (wp_own_wait pv K 𝒱 bd c (qRcv 1) (rcvPay pv c 1) (duties_rcv pv c 1) (payload_rcv pv c 1 0) 2 (le_of_eq (lv_rcv c 1)) (above_OA c) (credit_rcv 1)) $$ [Hc1 Ha1 HO]
  · isplitr; · iapply (Rec_rcv pv K c 1); iexact HR
    isplitr; · iexact Hlev
    isplitl [Hc1]; · iexact Hc1
    isplitl [Ha1] <;> iassumption
  iintro ⟨HO, Ha1, Hr1⟩
  iapply (wp_own_wait pv K 𝒱 bd c (qRcv 2) (rcvPay pv c 2) (duties_rcv pv c 2) (payload_rcv pv c 2 0) 2 (le_of_eq (lv_rcv c 2)) (above_OA c) (credit_rcv 2)) $$ [Hc2 Ha2 HO]
  · isplitr; · iapply (Rec_rcv pv K c 2); iexact HR
    isplitr; · iexact Hlev
    isplitl [Hc2]; · iexact Hc2
    isplitl [Ha2] <;> iassumption
  iintro ⟨HO, Ha2, Hr2⟩
  unfold rcvPay
  iapply (wp_load_held 𝒱 (c : Thread nD τ) bd Set.univ (m := outM) (r := R4 c)) $$ Ho; iintro Ho
  iapply (wp_load_held 𝒱 (c : Thread nD τ) bd Set.univ (m := rcvM) (r := R3 0)) $$ Hr0; iintro Hr0
  iapply (wp_load_held 𝒱 (c : Thread nD τ) bd Set.univ (m := rcvM) (r := R3 1)) $$ Hr1; iintro Hr1
  iapply (wp_load_held 𝒱 (c : Thread nD τ) bd Set.univ (m := rcvM) (r := R3 2)) $$ Hr2; iintro Hr2
  iapply (wp_load_held 𝒱 (c : Thread nD τ) bd Set.univ (m := outM) (r := R4 c)) $$ Ho; iintro Ho
  iapply (wp_store_held 𝒱 (c : Thread nD τ) bd Set.univ (m := outM) (r := R4 c)) $$ Ho; iintro Ho
  iapply (wp_load_held 𝒱 (c : Thread nD τ) bd Set.univ (m := outM) (r := R4 c)) $$ Ho; iintro Ho
  iapply (wp_load_whole_rect 𝒱 (c : Thread nD τ) bd Set.univ (m := agsM) (r := RZ)) $$ Hags; iintro Hags
  iapply (wp_store 𝒱 (c : Thread nD τ) bd Set.univ (m := agsM) (r := RZ) (f := va) (S := Finset.univ) (Finset.subset_univ _)) $$ Hags; iintro Hags
  rw [ags_written, wp_ret]
  imodintro
  iapply Hk
  isplitl [HO]; · iexact HO
  isplitl [Ha0 Hr0 Ha1 Hr1 Ha2 Hr2]
  · isplitl [Ha0 Hr0]; · isplitl [Ha0] <;> iassumption
    isplitl [Ha1 Hr1]; · isplitl [Ha1] <;> iassumption
    isplitl [Ha2] <;> iassumption
  isplitl [Ho]; · iexact Ho
  iexact Hags

theorem wp_agFetch (c : D4) (s : Fin 3) {Q : PUnit → sProp 𝕄} :
    iprop(Rec pv K ∗ levAts L lv ∗ (cred (tallyAt (agrCell c s) () N) ∗ atPos ER (agrCell c s) 0 ∅ 0)
        ∗ (∃ v : Vec F S1x256x768 .f32, outH c (src c s) v) ∗ (∃ W, owes (c : Thread nD τ) (0 : CellTallies nD τ sig Unit) W))
      ⊢ iprop((((∃ W, owes (c : Thread nD τ) (0 : CellTallies nD τ sig Unit) W) ∗ (atPos ER (agrCell c s) 1 ∅ 0 ∗ ∃ v : Vec F S1x256x768 .bf16, agrH c s v)
            ∗ outH c (src c s) (k0_pay11 (agl pv (src c s)))) -∗ Q ⟨⟩)
          -∗ wp frame (wpE defs 𝒱 (c : Thread nD τ) bd) Set.univ (agFetch (F := F) c s) Q) := by
  unfold agFetch
  iintro ⟨#HR, #Hlev, ⟨Hc, Ha⟩, ⟨%v, Ho⟩, HO⟩ Hk
  iapply (wp_own_wait pv K 𝒱 bd c (qAgr s) (agrPay pv c s) (duties_agr pv c s) (payload_agr pv c s 0) 3 (le_of_eq (lv_agr c s)) (above_zero 3) (credit_agr s)) $$ [Hc Ha HO]
  · isplitr; · iapply (Rec_agr pv K c s); iexact HR
    isplitr; · iexact Hlev
    isplitl [Hc]; · iexact Hc
    isplitl [Ha] <;> iassumption
  iintro ⟨HO, Ha, Hg⟩
  unfold agrPay
  iapply (wp_load_held 𝒱 (c : Thread nD τ) bd Set.univ (m := agrM) (r := R3 s)) $$ Hg; iintro Hg
  iapply (wp_load_held 𝒱 (c : Thread nD τ) bd Set.univ (m := outM) (r := R4 (src c s))) $$ Ho; iintro Ho
  iapply (wp_store_held 𝒱 (c : Thread nD τ) bd Set.univ (m := outM) (r := R4 (src c s))) $$ Ho; iintro Ho
  rw [wp_ret]
  imodintro
  iapply Hk
  isplitl [HO]; · iexact HO
  isplitl [Ha Hg]
  · isplitl [Ha]; · iexact Ha
    iexists _; iexact Hg
  iexact Ho

theorem wp_sndDrain (c : D4) (k : Fin 3) {Q : PUnit → sProp 𝕄} :
    iprop(Rec pv K ∗ levAts L lv ∗ (rsOut c k ∗ atPos ER (sndCell c (oth c k)) 0 ∅ 0)
        ∗ (∃ W, owes (c : Thread nD τ) (0 : CellTallies nD τ sig Unit) W))
      ⊢ iprop((((∃ W, owes (c : Thread nD τ) (0 : CellTallies nD τ sig Unit) W) ∗ (atPos ER (sndCell c (oth c k)) 1 ∅ 0 ∗ sndPay c (oth c k))) -∗ Q ⟨⟩)
          -∗ wp frame (wpE defs 𝒱 (c : Thread nD τ) bd) Set.univ (sndDrain (F := F) c k) Q) := by
  unfold sndDrain rsOut
  iintro ⟨#HR, #Hlev, ⟨Hc, Ha⟩, HO⟩ Hk
  iapply (wp_own_wait pv K 𝒱 bd c (qSnd (oth c k)) (sndPay c (oth c k)) (duties_snd pv c _ (oth_ne c k)) (payload_snd pv c _ 0) 0 (le_of_eq (lv_snd c _))
      (above_zero 0) (credit_snd (oth c k))) $$ [Hc Ha HO]
  · isplitr; · iapply (Rec_snd pv K c (oth c k)); iexact HR
    isplitr; · iexact Hlev
    isplitl [Hc]; · iexact Hc
    isplitl [Ha] <;> iassumption
  iintro ⟨HO, Ha, Hs⟩
  rw [wp_ret]
  imodintro
  iapply Hk
  isplitl [HO]; · iexact HO
  isplitl [Ha] <;> iassumption

theorem wp_agsDrain (c : D4) (k : Fin 3) {Q : PUnit → sProp 𝕄} :
    iprop(Rec pv K ∗ levAts L lv ∗ (cred (tallyAt (agsCell c k) () N) ∗ atPos ER (agsCell c k) 0 ∅ 0)
        ∗ (∃ W, owes (c : Thread nD τ) (0 : CellTallies nD τ sig Unit) W))
      ⊢ iprop((((∃ W, owes (c : Thread nD τ) (0 : CellTallies nD τ sig Unit) W) ∗ (atPos ER (agsCell c k) 1 ∅ 0 ∗ agsPay pv c k)) -∗ Q ⟨⟩)
          -∗ wp frame (wpE defs 𝒱 (c : Thread nD τ) bd) Set.univ (agsDrain (F := F) c k) Q) := by
  unfold agsDrain
  iintro ⟨#HR, #Hlev, ⟨Hc, Ha⟩, HO⟩ Hk
  iapply (wp_own_wait pv K 𝒱 bd c (qAgs k) (agsPay pv c k) (duties_ags pv c k) (payload_ags pv c k 0) 0 (le_of_eq (lv_ags c k))
      (above_zero 0) credit_ags) $$ [Hc Ha HO]
  · isplitr; · iapply (Rec_ags pv K c k); iexact HR
    isplitr; · iexact Hlev
    isplitl [Hc]; · iexact Hc
    isplitl [Ha] <;> iassumption
  iintro ⟨HO, Ha, Hs⟩
  rw [wp_ret]
  imodintro
  iapply Hk
  isplitl [HO]; · iexact HO
  isplitl [Ha] <;> iassumption

/-- A step with one triple at every `k`, done at 0, 1 and 2. -/
theorem wp_thrice (c : D4) (p : Fin 3 → KProg F) (P : sProp 𝕄) [BI.Persistent P] (O : ℕ → CellTallies nD τ sig Unit) (A B : Fin 3 → sProp 𝕄)
    (h : ∀ (k : Fin 3) (Q : PUnit → sProp 𝕄), iprop(P ∗ A k ∗ (∃ W, owes (c : Thread nD τ) (O k.val) W))
      ⊢ iprop((((∃ W, owes (c : Thread nD τ) (O (k.val + 1)) W) ∗ B k) -∗ Q ⟨⟩) -∗ wp frame (wpE defs 𝒱 (c : Thread nD τ) bd) Set.univ (p k) Q))
    {Q : PUnit → sProp 𝕄} :
    iprop(P ∗ (bigSep Finset.univ A) ∗ (∃ W, owes (c : Thread nD τ) (O 0) W))
      ⊢ iprop((((∃ W, owes (c : Thread nD τ) (O 3) W) ∗ bigSep Finset.univ B) -∗ Q ⟨⟩)
          -∗ wp frame (wpE defs 𝒱 (c : Thread nD τ) bd) Set.univ (thrice p) Q) := by
  unfold thrice
  simp only [bigSep_three, wp_bind]
  iintro ⟨#HP, ⟨H0, H1, H2⟩, HO⟩ Hk
  iapply (h 0 _) $$ [H0 HO]
  · isplitr; · iexact HP
    isplitl [H0]; · iexact H0
    iexact HO
  iintro ⟨HO, H0⟩
  iapply (h 1 _) $$ [H1 HO]
  · isplitr; · iexact HP
    isplitl [H1]; · iexact H1
    iexact HO
  iintro ⟨HO, H1⟩
  iapply (h 2 _) $$ [H2 HO]
  · isplitr; · iexact HP
    isplitl [H2]; · iexact H2
    iexact HO
  iintro ⟨HO, H2⟩
  iapply Hk
  isplitl [HO]; · iexact HO
  isplitl [H0]; · iexact H0
  isplitl [H1] <;> iassumption

/-- The same, owing nothing. -/
theorem wp_thrice_free (c : D4) (p : Fin 3 → KProg F) (P : sProp 𝕄) [BI.Persistent P] (A B : Fin 3 → sProp 𝕄)
    (h : ∀ (k : Fin 3) (Q : PUnit → sProp 𝕄), iprop(P ∗ A k ∗ (∃ W, owes (c : Thread nD τ) (0 : CellTallies nD τ sig Unit) W))
      ⊢ iprop((((∃ W, owes (c : Thread nD τ) (0 : CellTallies nD τ sig Unit) W) ∗ B k) -∗ Q ⟨⟩)
        -∗ wp frame (wpE defs 𝒱 (c : Thread nD τ) bd) Set.univ (p k) Q))
    {Q : PUnit → sProp 𝕄} :
    iprop(P ∗ (bigSep Finset.univ A) ∗ (∃ W, owes (c : Thread nD τ) (0 : CellTallies nD τ sig Unit) W))
      ⊢ iprop((((∃ W, owes (c : Thread nD τ) (0 : CellTallies nD τ sig Unit) W) ∗ bigSep Finset.univ B) -∗ Q ⟨⟩)
          -∗ wp frame (wpE defs 𝒱 (c : Thread nD τ) bd) Set.univ (thrice p) Q) :=
  wp_thrice 𝒱 bd c p P (fun _ => 0) A B h

/-- What is owed after `k` all-gather sends. -/
def OAk (c : D4) : ℕ → CellTallies nD τ sig Unit
  | 0 => OA c
  | 1 => 0 + oA c 2 + oA c 1
  | 2 => 0 + oA c 2
  | _ => 0
theorem OAk_step (c : D4) (k : Fin 3) : OAk c k.val = OAk c (k.val + 1) + oA c k := by
  match k with
  | 0 => rfl
  | 1 => rfl
  | 2 => rfl

/-- What the tail starts from. -/
def agPre (c : D4) : sProp 𝕄 :=
  iprop(levAts L lv
    ∗ (bigSep Finset.univ fun s : Fin 3 => iprop(cred (tallyAt (rcvCell c s) () N) ∗ atPos ER (rcvCell c s) 0 ∅ 0))
    ∗ (bigSep Finset.univ fun s : Fin 3 => iprop(cred (tallyAt (agrCell c s) () N) ∗ atPos ER (agrCell c s) 0 ∅ 0))
    ∗ (bigSep Finset.univ fun k : Fin 3 => iprop(rsOut c k ∗ atPos ER (sndCell c (oth c k)) 0 ∅ 0))
    ∗ (bigSep Finset.univ fun k : Fin 3 => atPos ER (agsCell c k) 0 ∅ 0)
    ∗ (bigSep Finset.univ fun k : Fin 3 => agIn c k)
    ∗ outH c c (pv c c) ∗ (bigSep Finset.univ fun s : Fin 3 => iprop(∃ v : Vec F S1x256x768 .f32, outH c (src c s) v))
    ∗ (∃ v : Vec F S256x768 .bf16, agsP c fullShare v) ∗ ∃ W, owes (c : Thread nD τ) (OA c) W)

/-- What it leaves: every cell past its round, every buffer back, the rows of all devices in the output. -/
def agPost (c : D4) : sProp 𝕄 :=
  iprop((∃ W, owes (c : Thread nD τ) (0 : CellTallies nD τ sig Unit) W)
    ∗ (bigSep Finset.univ fun s : Fin 3 => iprop(atPos ER (rcvCell c s) 1 ∅ 0 ∗ ∃ v : Vec F S1x256x768 .bf16, rcvH c s v))
    ∗ (bigSep Finset.univ fun s : Fin 3 => iprop(atPos ER (agrCell c s) 1 ∅ 0 ∗ ∃ v : Vec F S1x256x768 .bf16, agrH c s v))
    ∗ (bigSep Finset.univ fun k : Fin 3 => iprop(atPos ER (sndCell c (oth c k)) 1 ∅ 0 ∗ sndPay c (oth c k)))
    ∗ (bigSep Finset.univ fun k : Fin 3 => atPos ER (agsCell c k) 1 ∅ 0)
    ∗ (∃ v : Vec F S256x768 .bf16, agsP c fullShare v)
    ∗ outH c c (red pv c) ∗ bigSep Finset.univ fun s : Fin 3 => outH c (src c s) (k0_pay11 (agl pv (src c s))))

theorem wp_ag (c : D4) (Q : PUnit → sProp 𝕄) :
    iprop(Rec pv K ∗ agPre pv c ∗ (agPost pv c -∗ Q ⟨⟩))
      ⊢ wp frame (wpE defs 𝒱 (c : Thread nD τ) bd) Set.univ (agProg (F := F) c) Q := by
  unfold agPre agPost agProg
  simp only [wp_bind]
  iintro ⟨#HR, ⟨#Hlev, Hrcv, Hagr, Hsnd, Hags, Hin, Ho, Hv, Hbuf, HO⟩, Hk⟩
  iapply (wp_agReduce pv K 𝒱 bd c) $$ [Hrcv Ho Hbuf HO]
  · isplitr; · iexact HR
    isplitr; · iexact Hlev
    isplitl [Hrcv]; · iexact Hrcv
    isplitl [Ho]; · iexact Ho
    isplitl [Hbuf]; · iexact Hbuf
    iassumption
  iintro ⟨HO, Hrcv, Ho, Hbuf⟩
  ihave Hbuf := (ags_split c _) $$ Hbuf
  icases Hbuf with ⟨Hrest, Ht⟩
  ihave Hin := (pair3 (fun k => agsP c (tok k) (agv pv c)) (fun k => agIn c k)) $$ [Ht Hin]
  · isplitl [Ht]; · iexact Ht
    iexact Hin
  iapply (wp_thrice 𝒱 bd c (agSend c) (Rec pv K) (OAk c) (fun k => iprop(agsP c (tok k) (agv pv c) ∗ agIn c k))
      (fun k => cred (tallyAt (agsCell c k) () N)) (fun k Q => by
        iintro ⟨#HR, ⟨Ht, Hi⟩, HO⟩
        iapply (wp_ag_send pv K 𝒱 bd c k (OAk c (k.val + 1)) (OAk_step c k))
        isplitr; · iexact HR
        isplitl [Ht]; · iexact Ht
        isplitl [Hi]; · iexact Hi
        iexact HO)) $$ [Hin HO]
  · isplitr; · iexact HR
    isplitl [Hin]; · iexact Hin
    iexact HO
  iintro ⟨HO, Hcs⟩
  ihave Hf := (pair3 (fun s => iprop(cred (tallyAt (agrCell c s) () N) ∗ atPos ER (agrCell c s) 0 ∅ 0))
      (fun s => iprop(∃ v : Vec F S1x256x768 .f32, outH c (src c s) v))) $$ [Hagr Hv]
  · isplitl [Hagr]; · iexact Hagr
    iassumption
  iapply (wp_thrice_free 𝒱 bd c (agFetch c) iprop(Rec pv K ∗ levAts L lv)
      (fun s => iprop((cred (tallyAt (agrCell c s) () N) ∗ atPos ER (agrCell c s) 0 ∅ 0) ∗ ∃ v : Vec F S1x256x768 .f32, outH c (src c s) v))
      (fun s => iprop((atPos ER (agrCell c s) 1 ∅ 0 ∗ ∃ v : Vec F S1x256x768 .bf16, agrH c s v) ∗ outH c (src c s) (k0_pay11 (agl pv (src c s)))))
      (fun s Q => by
        iintro ⟨⟨#HR, #Hlev⟩, ⟨Ha, Hv⟩, HO⟩
        iapply (wp_agFetch pv K 𝒱 bd c s)
        isplitr; · iexact HR
        isplitr; · iexact Hlev
        isplitl [Ha]; · iexact Ha
        isplitl [Hv]; · iexact Hv
        iexact HO)) $$ [Hf HO]
  · isplitr
    · isplitr; · iexact HR
      iexact Hlev
    isplitl [Hf]; · iexact Hf
    iexact HO
  iintro ⟨HO, Hf⟩
  ihave Hf := (unpair3 (fun s => iprop(atPos ER (agrCell c s) 1 ∅ 0 ∗ ∃ v : Vec F S1x256x768 .bf16, agrH c s v))
      (fun s => outH c (src c s) (k0_pay11 (agl pv (src c s))))) $$ Hf
  icases Hf with ⟨Hagr, Hv⟩
  iapply (wp_thrice_free 𝒱 bd c (sndDrain c) iprop(Rec pv K ∗ levAts L lv) (fun k => iprop(rsOut c k ∗ atPos ER (sndCell c (oth c k)) 0 ∅ 0))
      (fun k => iprop(atPos ER (sndCell c (oth c k)) 1 ∅ 0 ∗ sndPay c (oth c k)))
      (fun k Q => by
        iintro ⟨⟨#HR, #Hlev⟩, Ha, HO⟩
        iapply (wp_sndDrain pv K 𝒱 bd c k)
        isplitr; · iexact HR
        isplitr; · iexact Hlev
        isplitl [Ha]; · iexact Ha
        iexact HO)) $$ [Hsnd HO]
  · isplitr
    · isplitr; · iexact HR
      iexact Hlev
    isplitl [Hsnd]; · iexact Hsnd
    iassumption
  iintro ⟨HO, Hsnd⟩
  ihave Hd := (pair3 (fun k => cred (tallyAt (agsCell c k) () N)) (fun k => atPos ER (agsCell c k) 0 ∅ 0)) $$ [Hcs Hags]
  · isplitl [Hcs]; · iexact Hcs
    iassumption
  iapply (wp_thrice_free 𝒱 bd c (agsDrain c) iprop(Rec pv K ∗ levAts L lv) (fun k => iprop(cred (tallyAt (agsCell c k) () N) ∗ atPos ER (agsCell c k) 0 ∅ 0))
      (fun k => iprop(atPos ER (agsCell c k) 1 ∅ 0 ∗ agsPay pv c k))
      (fun k Q => by
        iintro ⟨⟨#HR, #Hlev⟩, Ha, HO⟩
        iapply (wp_agsDrain pv K 𝒱 bd c k)
        isplitr; · iexact HR
        isplitr; · iexact Hlev
        isplitl [Ha]; · iexact Ha
        iexact HO)) $$ [Hd HO]
  · isplitr
    · isplitr; · iexact HR
      iexact Hlev
    isplitl [Hd]; · iexact Hd
    iassumption
  iintro ⟨HO, Hd⟩
  ihave Hd := (unpair3 (fun k => atPos ER (agsCell c k) 1 ∅ 0) (fun k => agsPay pv c k)) $$ Hd
  icases Hd with ⟨Hags, Ht⟩
  iapply Hk
  isplitl [HO]; · iexact HO
  isplitl [Hrcv]
  · iapply (show (bigSep Finset.univ fun s : Fin 3 => iprop(atPos ER (rcvCell c s) 1 ∅ 0 ∗ rcvPay pv c s) : sProp 𝕄)
        ⊢ bigSep Finset.univ fun s : Fin 3 => iprop(atPos ER (rcvCell c s) 1 ∅ 0 ∗ ∃ v : Vec F S1x256x768 .bf16, rcvH c s v) from
      bigSep_mono fun s _ => sep_mono_right (held_some (c : Thread nD τ) _ fullShare _)) $$ Hrcv
  isplitl [Hagr]; · iexact Hagr
  isplitl [Hsnd]; · iexact Hsnd
  isplitl [Hags]; · iexact Hags
  isplitl [Hrest Ht]
  · iexists agv pv c
    iapply (ags_join c)
    isplitl [Hrest]; · iexact Hrest
    iexact Ht
  isplitl [Ho]; · iexact Ho
  iassumption

end Cert.KernelIdeal.Talk

end
-- ==== Proof.KernelIdealVals.lean ====
/-
  What one device computes from its blocks: per batch and head the attention's columns, the context they make up, the four row
  chunks of the partial output.
-/
module

public import proofs.«01_k».proof.Proof.KernelIdealSteps

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## Buffers and pieces -/

abbrev xM : Memref sig .tc .vmem S2x512x768 .f32 := Memref.whole cc0_stg0_0
abbrev gM : Memref sig .tc .vmem S768x512 .f32 := Memref.whole cc0_stg1_0
abbrev kM : Memref sig .tc .vmem S2x8x512x64 .bf16 := Memref.whole cc0_stg2_0
abbrev vM : Memref sig .tc .vmem S2x8x512x64 .bf16 := Memref.whole cc0_stg3_0
abbrev oM : Memref sig .tc .vmem S512x768 .f32 := Memref.whole cc0_stg4_0

theorem inbX (b : Fin 2) : ∀ a, (![b.val, 0, 0] : Fin 3 → Nat) a + S1x512x768.size a ≤ S2x512x768.size a := by revert b; decide
theorem inbKV (b : Fin 2) (h : Fin 8) : ∀ a, (![b.val, h.val, 0, 0] : Fin 4 → Nat) a + S1x1x512x64.size a ≤ S2x8x512x64.size a := by revert b h; decide
theorem inbC (h : Fin 8) : ∀ a, (![0, 64 * h.val] : Fin 2 → Nat) a + S512x64.size a ≤ S512x512.size a := by revert h; decide
/-- Batch row `b`; keys or values of batch row `b` and head `h`; the context's columns of head `h`; whole matrices. -/
abbrev RX (b : Fin 2) : Rect S2x512x768 := Rect.unit (s := S2x512x768) ![b.val, 0, 0] S1x512x768.size (inbX b)
abbrev RKV (b : Fin 2) (h : Fin 8) : Rect S2x8x512x64 := Rect.unit (s := S2x8x512x64) ![b.val, h.val, 0, 0] S1x1x512x64.size (inbKV b h)
abbrev RC (h : Fin 8) : Rect S512x512 := Rect.unit (s := S512x512) ![0, 64 * h.val] S512x64.size (inbC h)
abbrev RG : Rect S768x512 := Rect.unit (s := S768x512) ![0, 0] S768x512.size inb_S768x512_S768x512_0_0
abbrev RO : Rect S512x768 := Rect.unit (s := S512x768) ![0, 0] S512x768.size inb_S512x768_S512x768_0_0
abbrev RW : Rect S512x512 := Rect.unit (s := S512x512) ![0, 0] S512x512.size inb_S512x512_S512x512_0_0

/-- The five operands' blocks on one device. -/
structure Ins (F : FTy → Type) where
  x : Vec F S2x512x768 .f32
  g : Vec F S768x512 .f32
  k : Vec F S2x8x512x64 .bf16
  v : Vec F S2x8x512x64 .bf16
  o : Vec F S512x768 .f32

variable (I : Ins F)

def xB (b : Fin 2) : Vec F S1x512x768 .f32 := (xM.access (RX b)).read (Elt F) I.x
def gB : Vec F S768x512 .f32 := (gM.access RG).read (Elt F) I.g
def kB (b : Fin 2) (h : Fin 8) : Vec F S1x1x512x64 .bf16 := (kM.access (RKV b h)).read (Elt F) I.k
def vB (b : Fin 2) (h : Fin 8) : Vec F S1x1x512x64 .bf16 := (vM.access (RKV b h)).read (Elt F) I.v
def oB' : Vec F S512x768 .f32 := (oM.access RO).read (Elt F) I.o

/-! ## The mask -/

def mIota : IVec S512x512 32 := iota .tc S512x512 32 [0] iota_S512x512_d0_w32
def mSign : BitVec 32 := Scalar.subi (Scalar.extui (Scalar.cmpi .sgt 64#32 0#32)) (Scalar.extui (Scalar.cmpi .slt 64#32 0#32))
def mA : IVec S512x512 1 := k0_pay33 mIota 64#32 k0_pay29 k0_pay30 mSign
def mB : BitVec 32 := Scalar.select (Scalar.cmpi .eq 3#32 0#32) 1#32 3#32
def mC : IVec S512x512 32 := k0_pay34 mIota 64#32 k0_pay29 k0_pay30 mSign
def mD : IVec S512x512 1 := k0_pay35 mIota 64#32 k0_pay29 k0_pay30 mSign
def bias : FVec F S512x512 .f32 := k0_pay36 (F := F) mA mB mC mD

/-! ## The heads -/

def gv : FVec F S768x512 .bf16 := k0_pay37 (gB I)
def ov : FVec F S512x768 .bf16 := k0_pay38 (oB' I)
/-- The queries of either batch row. -/
def q0 : FVec F S512x512 .bf16 := k0_pay39 (gB I) (xB I 0)
def q1 : FVec F S512x512 .bf16 := k0_pay63 (gv I) (xB I 1)

/-- The context columns of each head, batch row 0. -/
def hv0 : Fin 8 → Vec F S512x64 .f32 :=
  ![k0_pay42 (k0_pay40 mA mB mC mD (gB I) (xB I 0) (kB I 0 0)) (k0_pay41 mA mB mC mD (gB I) (xB I 0) (kB I 0 0)) (vB I 0 0),
    k0_pay43 bias (q0 I) (kB I 0 1) (vB I 0 1),
    k0_pay45 bias (k0_pay44 (q0 I) (kB I 0 2)) (vB I 0 2),
    k0_pay46 bias (q0 I) (kB I 0 3) (vB I 0 3),
    k0_pay48 bias (k0_pay47 (q0 I)) (kB I 0 4) (vB I 0 4),
    k0_pay52 (k0_pay50 bias (q0 I) (kB I 0 5) (vB I 0 5)) (k0_pay51 bias (q0 I) (kB I 0 5)),
    k0_pay53 bias (q0 I) (kB I 0 6) (vB I 0 6),
    k0_pay57 (k0_pay55 bias (q0 I) (kB I 0 7)) (k0_pay56 bias (q0 I) (kB I 0 7)) (vB I 0 7)]
/-- The context columns of each head, batch row 1. -/
def hv1 : Fin 8 → Vec F S512x64 .f32 :=
  ![k0_pay64 bias (gv I) (xB I 1) (kB I 1 0) (vB I 1 0),
    k0_pay67 (k0_pay65 bias (gv I) (xB I 1) (kB I 1 1)) (k0_pay66 bias (gv I) (xB I 1) (kB I 1 1)) (vB I 1 1),
    k0_pay68 bias (q1 I) (kB I 1 2) (vB I 1 2),
    k0_pay70 bias (k0_pay69 (q1 I)) (kB I 1 3) (vB I 1 3),
    k0_pay72 (k0_pay71 bias (q1 I) (kB I 1 4) (vB I 1 4)),
    k0_pay73 bias (q1 I) (kB I 1 5) (vB I 1 5),
    k0_pay77 (k0_pay75 bias (q1 I) (kB I 1 6)) (k0_pay76 bias (q1 I) (kB I 1 6)) (vB I 1 6),
    k0_pay78 bias (q1 I) (kB I 1 7) (vB I 1 7)]

/-! ## The context and the partial output -/

theorem ctx_head_lt (i : S512x512.Idx) : (i 1).val / 64 < 8 := by have : (i 1).val < 512 := (i 1).isLt; omega
/-- Where a context element sits in its head's columns. -/
def ctxAt (i : S512x512.Idx) : S512x64.Idx :=
  fun a => match a with
    | 0 => ⟨(i 0).val, (i 0).isLt⟩
    | 1 => ⟨(i 1).val % 64, Nat.mod_lt _ (by decide)⟩
/-- The heads' columns side by side. -/
def ctxJoin (h : Fin 8 → Vec F S512x64 .f32) : Vec F S512x512 .f32 := fun i => h ⟨(i 1).val / 64, ctx_head_lt i⟩ (ctxAt i)
def ctxRead (h : Fin 8 → Vec F S512x64 .f32) : Vec F S512x512 .f32 := (ctxM.access RW).read (Elt F) (ctxJoin h)

/-- The partial output's four row chunks. -/
def partOut : D4 → Vec F S1x256x768 .f32 :=
  ![k0_pay59 (ov I) (ctxRead (hv0 I)), k0_pay60 (ov I) (ctxRead (hv0 I)),
    k0_pay80 (ov I) (ctxRead (hv1 I)), k0_pay82 (k0_pay81 (ov I) (ctxRead (hv1 I)))]

/-! ## The context's pieces -/

abbrev ctxH (c : D4) (h : Fin 8) (v : Vec F S512x64 .f32) : sProp 𝕄 := held (c : Thread nD τ) (ctxM.access (RC h)) fullShare v

theorem RC_mem (h : Fin 8) (i : S512x512.Idx) : i ∈ (RC h).set ↔ (i 1).val / 64 = h.val := by
  rw [Rect.mem_set_unit]
  have hh := h.isLt
  constructor
  · intro H
    have h1 : 64 * h.val ≤ (i 1).val := (H 1).1
    have h2 : (i 1).val < 64 * h.val + 64 := (H 1).2
    omega
  · intro H a
    match a with
    | 0 => exact ⟨Nat.zero_le _, by show (i 0).val < 0 + 512; have : (i 0).val < 512 := (i 0).isLt; omega⟩
    | 1 => exact ⟨by show 64 * h.val ≤ (i 1).val; omega, by show (i 1).val < 64 * h.val + 64; omega⟩
theorem RC_disjoint (h h' : Fin 8) (hn : h ≠ h') : Disjoint (RC h).set (RC h').set := by
  rw [Finset.disjoint_left]
  intro i h1 h2
  exact hn (Fin.ext (((RC_mem h i).mp h1).symm.trans ((RC_mem h' i).mp h2)))
theorem RC_cover (i : S512x512.Idx) : ∃ h, i ∈ (RC h).set := ⟨⟨(i 1).val / 64, ctx_head_lt i⟩, (RC_mem _ i).mpr rfl⟩

theorem ctx_read (h : Fin 8 → Vec F S512x64 .f32) (t : Fin 8) : h t = (ctxM.access (RC t)).read (Elt F) (ctxJoin h) := by
  funext j
  have hj : (j 1).val < 64 := (j 1).isLt
  have ht := t.isLt
  have e0 : ((RC t).emb j 0).val = (j 0).val := by show 0 + 1 * (j 0).val = _; omega
  have e1 : ((RC t).emb j 1).val = 64 * t.val + (j 1).val := by show 64 * t.val + 1 * (j 1).val = _; omega
  show h t j = ctxJoin h ((RC t).emb j)
  unfold ctxJoin
  have a1 : (⟨((RC t).emb j 1).val / 64, ctx_head_lt _⟩ : Fin 8) = t := Fin.ext (by show ((RC t).emb j 1).val / 64 = t.val; omega)
  rw [a1]
  congr 1
  funext a
  match a with
  | 0 => exact Fin.ext e0.symm
  | 1 => exact Fin.ext (by show (j 1).val = ((RC t).emb j 1).val % 64; omega)

/-- All heads' columns held are the context held whole. -/
theorem ctx_join (c : D4) (h : Fin 8 → Vec F S512x64 .f32) :
    (bigSep Finset.univ fun t : Fin 8 => ctxH c t (h t) : sProp 𝕄) ⊢ (ctxM.view.loc (c : Thread nD τ) ↦{fullShare} ctxJoin h) :=
  held_join (c : Thread nD τ) cc0_scratch0 RC fullShare RC_disjoint RC_cover (ctxJoin h) h (ctx_read h)
theorem ctx_split (c : D4) (f : Vec F S512x512 .f32) :
    (ctxM.view.loc (c : Thread nD τ) ↦{fullShare} f : sProp 𝕄)
      ⊢ bigSep Finset.univ fun t : Fin 8 => ctxH c t ((ctxM.access (RC t)).read (Elt F) f) :=
  held_split (c : Thread nD τ) cc0_scratch0 RC fullShare RC_disjoint RC_cover f

end Cert.KernelIdeal.Talk

end
-- ==== Proof.KernelIdealParts.lean ====
/-
  The kernel's straight-line parts on one device: the barrier, and the two halves of the attention, each part at the vectors it is
  handed and the blocks held.
-/
module

public import proofs.«01_k».proof.Proof.KernelIdealVals

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-- A part of the kernel on the device's own buffers and semaphores. -/
abbrev onBufs {α : Type 1} (p : (arg0 : Memref sig .tc .vmem S2x512x768 .f32) → arg0.IsWhole → (arg1 : Memref sig .tc .vmem S768x512 .f32) → arg1.IsWhole →
    (arg2 : Memref sig .tc .vmem S2x8x512x64 .bf16) → arg2.IsWhole → (arg3 : Memref sig .tc .vmem S2x8x512x64 .bf16) → arg3.IsWhole →
    (arg4 : Memref sig .tc .vmem S512x768 .f32) → arg4.IsWhole → (arg5 : Memref sig .tc .vmem S4x256x768 .f32) → arg5.IsWhole →
    (arg6 : Memref sig .tc .vmem S512x512 .f32) → arg6.IsWhole → (arg7 : Memref sig .tc .vmem S4x256x768 .bf16) → arg7.IsWhole →
    (arg8 : Memref sig .tc .vmem S3x256x768 .bf16) → arg8.IsWhole → (arg9 : Memref sig .tc .vmem S256x768 .bf16) → arg9.IsWhole →
    (arg10 : Memref sig .tc .vmem S3x256x768 .bf16) → arg10.IsWhole → DmaSems sig S4 → DmaSems sig S3 → DmaSems sig S3 → DmaSems sig S3 → α) : α :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8

variable {defs : Defs nD τ sig (Elt F) Λ₀} (𝒱 : Variants) (bd : Option 𝒱.V)

/-! ## Loads of the operands -/

/-- The operands' blocks, held. -/
def inp (c : D4) (I : Ins F) : sProp 𝕄 :=
  iprop((xM.view.loc (c : Thread nD τ) ↦{fullShare} I.x) ∗ (gM.view.loc (c : Thread nD τ) ↦{fullShare} I.g)
    ∗ (kM.view.loc (c : Thread nD τ) ↦{fullShare} I.k) ∗ (vM.view.loc (c : Thread nD τ) ↦{fullShare} I.v)
    ∗ (oM.view.loc (c : Thread nD τ) ↦{fullShare} I.o))

section Ops

variable (c : D4) {I : Ins F} {α : Type}

theorem wp_x (b : Fin 2) {Q : α → sProp 𝕄} {hl} {k : Vec F S1x512x768 .f32 → Prog (TpuEff nD τ sig (Elt F) Λ₀ .tc) α} :
    (inp c I : sProp 𝕄) ⊢ iprop((inp c I -∗ wp frame (wpE defs 𝒱 (c : Thread nD τ) bd) Set.univ (k (xB I b)) Q)
      -∗ wp frame (wpE defs 𝒱 (c : Thread nD τ) bd) Set.univ (.op (.load xM (RX b).toLoadRect hl) k) Q) := by
  unfold inp
  iintro ⟨Hx, Hr⟩ Hk
  iapply (wp_load_whole_rect 𝒱 (c : Thread nD τ) bd Set.univ (m := xM) (r := RX b)) $$ Hx; iintro Hx
  iapply Hk
  isplitl [Hx] <;> iassumption
theorem wp_g {Q : α → sProp 𝕄} {hl} {k : Vec F S768x512 .f32 → Prog (TpuEff nD τ sig (Elt F) Λ₀ .tc) α} :
    (inp c I : sProp 𝕄) ⊢ iprop((inp c I -∗ wp frame (wpE defs 𝒱 (c : Thread nD τ) bd) Set.univ (k (gB I)) Q)
      -∗ wp frame (wpE defs 𝒱 (c : Thread nD τ) bd) Set.univ (.op (.load gM RG.toLoadRect hl) k) Q) := by
  unfold inp
  iintro ⟨H0, Hx, Hr⟩ Hk
  iapply (wp_load_whole_rect 𝒱 (c : Thread nD τ) bd Set.univ (m := gM) (r := RG)) $$ Hx; iintro Hx
  iapply Hk
  isplitl [H0]; · iexact H0
  isplitl [Hx] <;> iassumption
theorem wp_k (b : Fin 2) (h : Fin 8) {Q : α → sProp 𝕄} {hl} {k : Vec F S1x1x512x64 .bf16 → Prog (TpuEff nD τ sig (Elt F) Λ₀ .tc) α} :
    (inp c I : sProp 𝕄) ⊢ iprop((inp c I -∗ wp frame (wpE defs 𝒱 (c : Thread nD τ) bd) Set.univ (k (kB I b h)) Q)
      -∗ wp frame (wpE defs 𝒱 (c : Thread nD τ) bd) Set.univ (.op (.load kM (RKV b h).toLoadRect hl) k) Q) := by
  unfold inp
  iintro ⟨H0, H1, Hx, Hr⟩ Hk
  iapply (wp_load_whole_rect 𝒱 (c : Thread nD τ) bd Set.univ (m := kM) (r := RKV b h)) $$ Hx; iintro Hx
  iapply Hk
  isplitl [H0]; · iexact H0
  isplitl [H1]; · iexact H1
  isplitl [Hx] <;> iassumption
theorem wp_v (b : Fin 2) (h : Fin 8) {Q : α → sProp 𝕄} {hl} {k : Vec F S1x1x512x64 .bf16 → Prog (TpuEff nD τ sig (Elt F) Λ₀ .tc) α} :
    (inp c I : sProp 𝕄) ⊢ iprop((inp c I -∗ wp frame (wpE defs 𝒱 (c : Thread nD τ) bd) Set.univ (k (vB I b h)) Q)
      -∗ wp frame (wpE defs 𝒱 (c : Thread nD τ) bd) Set.univ (.op (.load vM (RKV b h).toLoadRect hl) k) Q) := by
  unfold inp
  iintro ⟨H0, H1, H2, Hx, Hr⟩ Hk
  iapply (wp_load_whole_rect 𝒱 (c : Thread nD τ) bd Set.univ (m := vM) (r := RKV b h)) $$ Hx; iintro Hx
  iapply Hk
  isplitl [H0]; · iexact H0
  isplitl [H1]; · iexact H1
  isplitl [H2]; · iexact H2
  isplitl [Hx] <;> iassumption
theorem wp_o {Q : α → sProp 𝕄} {hl} {k : Vec F S512x768 .f32 → Prog (TpuEff nD τ sig (Elt F) Λ₀ .tc) α} :
    (inp c I : sProp 𝕄) ⊢ iprop((inp c I -∗ wp frame (wpE defs 𝒱 (c : Thread nD τ) bd) Set.univ (k (oB' I)) Q)
      -∗ wp frame (wpE defs 𝒱 (c : Thread nD τ) bd) Set.univ (.op (.load oM RO.toLoadRect hl) k) Q) := by
  unfold inp
  iintro ⟨H0, H1, H2, H3, Hx⟩ Hk
  iapply (wp_load_whole_rect 𝒱 (c : Thread nD τ) bd Set.univ (m := oM) (r := RO)) $$ Hx; iintro Hx
  iapply Hk
  isplitl [H0]; · iexact H0
  isplitl [H1]; · iexact H1
  isplitl [H2]; · iexact H2
  isplitl [H3] <;> iassumption

/-- A head's columns put into the context, their old value loaded first. -/
theorem wp_put (h : Fin 8) {Q : α → sProp 𝕄} {hl hx hm} {w v : Vec F S512x64 .f32} {rest : Prog (TpuEff nD τ sig (Elt F) Λ₀ .tc) α} :
    (ctxH c h v : sProp 𝕄) ⊢ iprop((ctxH c h w -∗ wp frame (wpE defs 𝒱 (c : Thread nD τ) bd) Set.univ rest Q)
      -∗ wp frame (wpE defs 𝒱 (c : Thread nD τ) bd) Set.univ
        (.op (.load ctxM (RC h).toLoadRect hl) fun _ => .op (.store ctxM (RC h) w Finset.univ hx hm) fun _ => rest) Q) := by
  iintro H Hk
  iapply (wp_load_held 𝒱 (c : Thread nD τ) bd Set.univ (m := ctxM) (r := RC h)) $$ H; iintro H
  iapply (wp_store_held 𝒱 (c : Thread nD τ) bd Set.univ (m := ctxM) (r := RC h)) $$ H; iintro H
  iapply Hk; iexact H
/-- A chunk of the output written, its old value loaded first. -/
theorem wp_out (ch : D4) {Q : α → sProp 𝕄} {hl hx hm} {w v : Vec F S1x256x768 .f32} {rest : Prog (TpuEff nD τ sig (Elt F) Λ₀ .tc) α} :
    (outH c ch v : sProp 𝕄) ⊢ iprop((outH c ch w -∗ wp frame (wpE defs 𝒱 (c : Thread nD τ) bd) Set.univ rest Q)
      -∗ wp frame (wpE defs 𝒱 (c : Thread nD τ) bd) Set.univ
        (.op (.load outM (R4 ch).toLoadRect hl) fun _ => .op (.store outM (R4 ch) w Finset.univ hx hm) fun _ => rest) Q) := by
  iintro H Hk
  iapply (wp_load_held 𝒱 (c : Thread nD τ) bd Set.univ (m := outM) (r := R4 ch)) $$ H; iintro H
  iapply (wp_store_held 𝒱 (c : Thread nD τ) bd Set.univ (m := outM) (r := R4 ch)) $$ H; iintro H
  iapply Hk; iexact H

end Ops

/-! ## The first half -/

section Parts

variable (c : D4) {I : Ins F}

abbrev WP {α : Type} (c : D4) (p : Prog (TpuEff nD τ sig (Elt F) Λ₀ .tc) α) (Q : α → sProp 𝕄) : sProp 𝕄 :=
  wp frame (wpE defs 𝒱 (c : Thread nD τ) bd) Set.univ p Q

theorem wp_part27 {Q} : (inp c I : sProp 𝕄)
      ⊢ iprop((inp c I -∗ Q ⟨bias, gv I, ov I, q0 I, k0_pay40 mA mB mC mD (gB I) (xB I 0) (kB I 0 0), k0_pay41 mA mB mC mD (gB I) (xB I 0) (kB I 0 0)⟩)
        -∗ WP (defs := defs) 𝒱 bd c (onBufs (k0_part27 (F := F)) mA mB mC mD) Q) := by
  rw [k0_part27_eq_skeleton]
  unfold onBufs k0_part27_skel
  simp only [Prog.lift, Prog.bind_op, Prog.bind_ret, Prog.pure_eq_ret]
  iintro H Hk
  iapply (wp_g 𝒱 bd c) $$ H; iintro H
  iapply (wp_o 𝒱 bd c) $$ H; iintro H
  iapply (wp_x 𝒱 bd c 0) $$ H; iintro H
  iapply (wp_k 𝒱 bd c 0 0) $$ H; iintro H
  unfold bias gv ov q0
  rw [wp_ret]; imodintro
  iapply Hk; iexact H

theorem wp_part28 (q : FVec F S512x512 .bf16) (v111 : FVec F S512x512 .f32) (v115 : FVec F S512x1 .f32) {a0 a1 : Vec F S512x64 .f32} {Q} :
    iprop(inp c I ∗ ctxH c 0 a0 ∗ ctxH c 1 a1)
      ⊢ iprop(((inp c I ∗ ctxH c 0 (k0_pay42 v111 v115 (vB I 0 0)) ∗ ctxH c 1 (k0_pay43 bias q (kB I 0 1) (vB I 0 1))) -∗ Q (k0_pay44 q (kB I 0 2)))
        -∗ WP (defs := defs) 𝒱 bd c (onBufs (k0_part28 (F := F)) bias q v111 v115) Q) := by
  rw [k0_part28_eq_skeleton]
  unfold onBufs k0_part28_skel
  simp only [Prog.lift, Prog.bind_op, Prog.bind_ret, Prog.pure_eq_ret]
  iintro ⟨H, H0, H1⟩ Hk
  iapply (wp_v 𝒱 bd c 0 0) $$ H; iintro H
  iapply (wp_put 𝒱 bd c 0) $$ H0; iintro H0
  iapply (wp_k 𝒱 bd c 0 1) $$ H; iintro H
  iapply (wp_v 𝒱 bd c 0 1) $$ H; iintro H
  iapply (wp_put 𝒱 bd c 1) $$ H1; iintro H1
  iapply (wp_k 𝒱 bd c 0 2) $$ H; iintro H
  rw [wp_ret]; imodintro
  iapply Hk
  isplitl [H]; · iexact H
  isplitl [H0] <;> iassumption

theorem wp_part29 (q : FVec F S512x512 .bf16) (v147 : FVec F S512x512 .f32) {a0 a1 : Vec F S512x64 .f32} {Q} :
    iprop(inp c I ∗ ctxH c 2 a0 ∗ ctxH c 3 a1)
      ⊢ iprop(((inp c I ∗ ctxH c 2 (k0_pay45 bias v147 (vB I 0 2)) ∗ ctxH c 3 (k0_pay46 bias q (kB I 0 3) (vB I 0 3))) -∗ Q (k0_pay47 q))
        -∗ WP (defs := defs) 𝒱 bd c (onBufs (k0_part29 (F := F)) bias q v147) Q) := by
  rw [k0_part29_eq_skeleton]
  unfold onBufs k0_part29_skel
  simp only [Prog.lift, Prog.bind_op, Prog.bind_ret, Prog.pure_eq_ret]
  iintro ⟨H, H0, H1⟩ Hk
  iapply (wp_v 𝒱 bd c 0 2) $$ H; iintro H
  iapply (wp_put 𝒱 bd c 2) $$ H0; iintro H0
  iapply (wp_k 𝒱 bd c 0 3) $$ H; iintro H
  iapply (wp_v 𝒱 bd c 0 3) $$ H; iintro H
  iapply (wp_put 𝒱 bd c 3) $$ H1; iintro H1
  rw [wp_ret]; imodintro
  iapply Hk
  isplitl [H]; · iexact H
  isplitl [H0] <;> iassumption

theorem wp_part30 (q : FVec F S512x512 .bf16) (v182 : FVec F S512x64 .bf16) {a0 : Vec F S512x64 .f32} {Q} :
    iprop(inp c I ∗ ctxH c 4 a0)
      ⊢ iprop(((inp c I ∗ ctxH c 4 (k0_pay48 bias v182 (kB I 0 4) (vB I 0 4)))
          -∗ Q ⟨k0_pay50 bias q (kB I 0 5) (vB I 0 5), k0_pay51 bias q (kB I 0 5)⟩)
        -∗ WP (defs := defs) 𝒱 bd c (onBufs (k0_part30 (F := F)) bias q v182) Q) := by
  rw [k0_part30_eq_skeleton]
  unfold onBufs k0_part30_skel
  simp only [Prog.lift, Prog.bind_op, Prog.bind_ret, Prog.pure_eq_ret]
  iintro ⟨H, H0⟩ Hk
  iapply (wp_k 𝒱 bd c 0 4) $$ H; iintro H
  iapply (wp_v 𝒱 bd c 0 4) $$ H; iintro H
  iapply (wp_put 𝒱 bd c 4) $$ H0; iintro H0
  iapply (wp_k 𝒱 bd c 0 5) $$ H; iintro H
  iapply (wp_v 𝒱 bd c 0 5) $$ H; iintro H
  rw [wp_ret]; imodintro
  iapply Hk
  isplitl [H] <;> iassumption

theorem wp_part31 (q : FVec F S512x512 .bf16) (v214 v215 : FVec F S512x64 .f32) {a0 a1 : Vec F S512x64 .f32} {Q} :
    iprop(inp c I ∗ ctxH c 5 a0 ∗ ctxH c 6 a1)
      ⊢ iprop(((inp c I ∗ ctxH c 5 (k0_pay52 v214 v215) ∗ ctxH c 6 (k0_pay53 bias q (kB I 0 6) (vB I 0 6)))
          -∗ Q ⟨k0_pay55 bias q (kB I 0 7), k0_pay56 bias q (kB I 0 7)⟩)
        -∗ WP (defs := defs) 𝒱 bd c (onBufs (k0_part31 (F := F)) bias q v214 v215) Q) := by
  rw [k0_part31_eq_skeleton]
  unfold onBufs k0_part31_skel
  simp only [Prog.lift, Prog.bind_op, Prog.bind_ret, Prog.pure_eq_ret]
  iintro ⟨H, H0, H1⟩ Hk
  iapply (wp_put 𝒱 bd c 5) $$ H0; iintro H0
  iapply (wp_k 𝒱 bd c 0 6) $$ H; iintro H
  iapply (wp_v 𝒱 bd c 0 6) $$ H; iintro H
  iapply (wp_put 𝒱 bd c 6) $$ H1; iintro H1
  iapply (wp_k 𝒱 bd c 0 7) $$ H; iintro H
  rw [wp_ret]; imodintro
  iapply Hk
  isplitl [H]; · iexact H
  isplitl [H0] <;> iassumption

/-! ## The second half -/

theorem wp_part34 (q : FVec F S512x512 .bf16) (v312 : FVec F S512x512 .f32) (v313 : FVec F S512 .f32) {a0 a1 : Vec F S512x64 .f32} {Q} :
    iprop(inp c I ∗ ctxH c 1 a0 ∗ ctxH c 2 a1)
      ⊢ iprop(((inp c I ∗ ctxH c 1 (k0_pay67 v312 v313 (vB I 1 1)) ∗ ctxH c 2 (k0_pay68 bias q (kB I 1 2) (vB I 1 2))) -∗ Q (k0_pay69 q))
        -∗ WP (defs := defs) 𝒱 bd c (onBufs (k0_part34 (F := F)) bias q v312 v313) Q) := by
  rw [k0_part34_eq_skeleton]
  unfold onBufs k0_part34_skel
  simp only [Prog.lift, Prog.bind_op, Prog.bind_ret, Prog.pure_eq_ret]
  iintro ⟨H, H0, H1⟩ Hk
  iapply (wp_v 𝒱 bd c 1 1) $$ H; iintro H
  iapply (wp_put 𝒱 bd c 1) $$ H0; iintro H0
  iapply (wp_k 𝒱 bd c 1 2) $$ H; iintro H
  iapply (wp_v 𝒱 bd c 1 2) $$ H; iintro H
  iapply (wp_put 𝒱 bd c 2) $$ H1; iintro H1
  rw [wp_ret]; imodintro
  iapply Hk
  isplitl [H]; · iexact H
  isplitl [H0] <;> iassumption

theorem wp_part35 (q : FVec F S512x512 .bf16) (v345 : FVec F S512x64 .bf16) {a0 a1 : Vec F S512x64 .f32} {Q} :
    iprop(inp c I ∗ ctxH c 3 a0 ∗ ctxH c 4 a1)
      ⊢ iprop(((inp c I ∗ ctxH c 3 (k0_pay70 bias v345 (kB I 1 3) (vB I 1 3)) ∗ ctxH c 4 a1) -∗ Q ⟨k0_pay71 bias q (kB I 1 4) (vB I 1 4), a1⟩)
        -∗ WP (defs := defs) 𝒱 bd c (onBufs (k0_part35 (F := F)) bias q v345) Q) := by
  rw [k0_part35_eq_skeleton]
  unfold onBufs k0_part35_skel
  simp only [Prog.lift, Prog.bind_op, Prog.bind_ret, Prog.pure_eq_ret]
  iintro ⟨H, H0, H1⟩ Hk
  iapply (wp_k 𝒱 bd c 1 3) $$ H; iintro H
  iapply (wp_v 𝒱 bd c 1 3) $$ H; iintro H
  iapply (wp_put 𝒱 bd c 3) $$ H0; iintro H0
  iapply (wp_k 𝒱 bd c 1 4) $$ H; iintro H
  iapply (wp_v 𝒱 bd c 1 4) $$ H; iintro H
  iapply (wp_load_held 𝒱 (c : Thread nD τ) bd Set.univ (m := ctxM) (r := RC 4)) $$ H1; iintro H1
  rw [wp_ret]; imodintro
  iapply Hk
  isplitl [H]; · iexact H
  isplitl [H0] <;> iassumption

theorem wp_part36 (q : FVec F S512x512 .bf16) (v379 : FVec F S512x64 .f32) (v380 : Vec F S512x64 .f32) {a0 a1 : Vec F S512x64 .f32} {Q} :
    iprop(inp c I ∗ ctxH c 4 a0 ∗ ctxH c 5 a1)
      ⊢ iprop(((inp c I ∗ ctxH c 4 (k0_pay72 v379) ∗ ctxH c 5 (k0_pay73 bias q (kB I 1 5) (vB I 1 5)))
          -∗ Q ⟨k0_pay75 bias q (kB I 1 6), k0_pay76 bias q (kB I 1 6), vB I 1 6⟩)
        -∗ WP (defs := defs) 𝒱 bd c (onBufs (k0_part36 (F := F)) bias q v379 v380) Q) := by
  rw [k0_part36_eq_skeleton]
  unfold onBufs k0_part36_skel
  simp only [Prog.lift, Prog.bind_op, Prog.bind_ret, Prog.pure_eq_ret]
  iintro ⟨H, H0, H1⟩ Hk
  iapply (wp_store_held 𝒱 (c : Thread nD τ) bd Set.univ (m := ctxM) (r := RC 4)) $$ H0; iintro H0
  iapply (wp_k 𝒱 bd c 1 5) $$ H; iintro H
  iapply (wp_v 𝒱 bd c 1 5) $$ H; iintro H
  iapply (wp_put 𝒱 bd c 5) $$ H1; iintro H1
  iapply (wp_k 𝒱 bd c 1 6) $$ H; iintro H
  iapply (wp_v 𝒱 bd c 1 6) $$ H; iintro H
  rw [wp_ret]; imodintro
  iapply Hk
  isplitl [H]; · iexact H
  isplitl [H0] <;> iassumption

end Parts

end Cert.KernelIdeal.Talk

end
-- ==== Proof.KernelIdealBody.lean ====
/-
  The kernel's body on one device: the barrier, the first half, the reduce-scatter's sends of its rows, the second half and its
  sends, the all-gather tail.
-/
module

public import proofs.«01_k».proof.Proof.KernelIdealParts

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable (pv : D4 → D4 → Vec F S1x256x768 .f32) (K : GSem nD τ sig → ℕ)

/-! ## The reduce-scatter's sends, one after the other -/

/-- The state of the reduce-scatter when `n` sends are out. -/
def RSst (c : D4) : ℕ → sProp 𝕄
  | 0 => iprop(rsIn c 0 ∗ rsIn c 1 ∗ rsIn c 2 ∗ ∃ W, owes (c : Thread nD τ) (OA c + oR c 2 + oR c 1 + oR c 0) W)
  | 1 => iprop(rsOut c 0 ∗ rsIn c 1 ∗ rsIn c 2 ∗ ∃ W, owes (c : Thread nD τ) (OA c + oR c 2 + oR c 1) W)
  | 2 => iprop(rsOut c 0 ∗ rsOut c 1 ∗ rsIn c 2 ∗ ∃ W, owes (c : Thread nD τ) (OA c + oR c 2) W)
  | _ => iprop(rsOut c 0 ∗ rsOut c 1 ∗ rsOut c 2 ∗ ∃ W, owes (c : Thread nD τ) (OA c) W)

/-- A send takes its own item out of the state and puts its credit back. -/
theorem RSst_step (c : D4) (k : Fin 3) : ∃ O : CellTallies nD τ sig Unit,
    RSst (F := F) c k.val ⊢ iprop((rsIn c k ∗ ∃ W, owes (c : Thread nD τ) (O + oR c k) W)
      ∗ ((rsOut c k ∗ ∃ W, owes (c : Thread nD τ) O W) -∗ RSst c (k.val + 1))) := by
  match k with
  | 0 =>
    refine ⟨OA c + oR c 2 + oR c 1, ?_⟩
    refine (show iprop(rsIn c 0 ∗ rsIn c 1 ∗ rsIn c 2 ∗ ∃ W, owes (c : Thread nD τ) (OA c + oR c 2 + oR c 1 + oR c 0) W)
      ⊢ iprop((rsIn c 0 ∗ ∃ W, owes (c : Thread nD τ) (OA c + oR c 2 + oR c 1 + oR c 0) W)
      ∗ ((rsOut c 0 ∗ ∃ W, owes (c : Thread nD τ) (OA c + oR c 2 + oR c 1) W)
        -∗ (rsOut c 0 ∗ rsIn c 1 ∗ rsIn c 2 ∗ ∃ W, owes (c : Thread nD τ) (OA c + oR c 2 + oR c 1) W))) from ?_)
    iintro ⟨H0, H1, H2, HO⟩
    isplitl [H0 HO]; · isplitl [H0] <;> iassumption
    iintro ⟨H0, HO⟩
    isplitl [H0]; · iexact H0
    isplitl [H1]; · iexact H1
    isplitl [H2] <;> iassumption
  | 1 =>
    refine ⟨OA c + oR c 2, ?_⟩
    refine (show iprop(rsOut c 0 ∗ rsIn c 1 ∗ rsIn c 2 ∗ ∃ W, owes (c : Thread nD τ) (OA c + oR c 2 + oR c 1) W)
      ⊢ iprop((rsIn c 1 ∗ ∃ W, owes (c : Thread nD τ) (OA c + oR c 2 + oR c 1) W)
      ∗ ((rsOut c 1 ∗ ∃ W, owes (c : Thread nD τ) (OA c + oR c 2) W)
        -∗ (rsOut c 0 ∗ rsOut c 1 ∗ rsIn c 2 ∗ ∃ W, owes (c : Thread nD τ) (OA c + oR c 2) W))) from ?_)
    iintro ⟨H0, H1, H2, HO⟩
    isplitl [H1 HO]; · isplitl [H1] <;> iassumption
    iintro ⟨H1, HO⟩
    isplitl [H0]; · iexact H0
    isplitl [H1]; · iexact H1
    isplitl [H2] <;> iassumption
  | 2 =>
    refine ⟨OA c, ?_⟩
    refine (show iprop(rsOut c 0 ∗ rsOut c 1 ∗ rsIn c 2 ∗ ∃ W, owes (c : Thread nD τ) (OA c + oR c 2) W)
      ⊢ iprop((rsIn c 2 ∗ ∃ W, owes (c : Thread nD τ) (OA c + oR c 2) W)
      ∗ ((rsOut c 2 ∗ ∃ W, owes (c : Thread nD τ) (OA c) W)
        -∗ (rsOut c 0 ∗ rsOut c 1 ∗ rsOut c 2 ∗ ∃ W, owes (c : Thread nD τ) (OA c) W))) from ?_)
    iintro ⟨H0, H1, H2, HO⟩
    isplitl [H2 HO]; · isplitl [H2] <;> iassumption
    iintro ⟨H2, HO⟩
    isplitl [H0]; · iexact H0
    isplitl [H1]; · iexact H1
    isplitl [H2] <;> iassumption

variable {defs : Defs nD τ sig (Elt F) Λ₀} (𝒱 : Variants) (bd : Option 𝒱.V)

/-- The `k`-th send of device `c`, to slot `s` of device `ch`, and what follows it. -/
theorem wp_rs_then (c : D4) (k : Fin 3) (ch : D4) (s : Fin 3) (hch : oth c k = ch) (hs : slot c ch = s) {α : Type}
    {rest : Prog (TpuEff nD τ sig (Elt F) Λ₀ .tc) α} {Q : α → sProp 𝕄} :
    iprop(Rec pv K ∗ outH c ch (pv c ch) ∗ RSst c k.val)
      ⊢ iprop(((outH c ch (pv c ch) ∗ RSst c (k.val + 1)) -∗ wp frame (wpE defs 𝒱 (c : Thread nD τ) bd) Set.univ rest Q)
        -∗ wp frame (wpE defs 𝒱 (c : Thread nD τ) bd) Set.univ (rsProg (F := F) ch s >>= fun _ => rest) Q) := by
  subst hch hs
  obtain ⟨O, h⟩ := RSst_step (F := F) c k
  rw [wp_bind]
  iintro ⟨#HR, Ho, HS⟩ Hk
  ihave HS := h $$ HS
  icases HS with ⟨⟨Hin, ⟨%W, HO⟩⟩, Hb⟩
  iapply (wp_rs pv K 𝒱 bd c k O rfl W)
  isplitr; · iexact HR
  isplitl [Ho]; · iexact Ho
  isplitl [Hin]; · iexact Hin
  isplitl [HO]; · iexact HO
  iintro ⟨Ho, H0, HO⟩
  iapply Hk
  isplitl [Ho]; · iexact Ho
  iapply Hb
  isplitl [H0]; · iexact H0
  iexists _; iexact HO

/-- The all-gather tail and what follows it. -/
theorem wp_ag_then (c : D4) {α : Type} {rest : Prog (TpuEff nD τ sig (Elt F) Λ₀ .tc) α} {Q : α → sProp 𝕄} :
    iprop(Rec pv K ∗ agPre pv c)
      ⊢ iprop((agPost pv c -∗ wp frame (wpE defs 𝒱 (c : Thread nD τ) bd) Set.univ rest Q)
        -∗ wp frame (wpE defs 𝒱 (c : Thread nD τ) bd) Set.univ (agProg (F := F) c >>= fun _ => rest) Q) := by
  rw [wp_bind]
  iintro ⟨#HR, Hp⟩ Hk
  iapply (wp_ag pv K 𝒱 bd c)
  isplitr; · iexact HR
  isplitl [Hp] <;> iassumption

/-! ## The barrier -/

/-- What a device hands the others, and what it waits with. -/
def barIn (c : D4) : sProp 𝕄 :=
  iprop(atPos ER (barCell c) 0 ∅ 0 ∗ cred (tallyAt (barCell c) () 3)
    ∗ (bigSep Finset.univ fun k : Fin 3 => iprop(dutyTok ER (barCell (src c k)) 0 c ∗ barPay (F := F) (src c k) c))
    ∗ ∃ W, owes (c : Thread nD τ) (O₀ c) W)

theorem dev1 (c : D4) : (⟨k0_dev1 c, k0_dev1_lt c⟩ : Dev nD) = src c 0 := by revert c; decide
theorem dev2 (c : D4) : (⟨k0_dev2 c, k0_dev2_lt c⟩ : Dev nD) = src c 1 := by revert c; decide
theorem dev3 (c : D4) : (⟨k0_dev3 c, k0_dev3_lt c⟩ : Dev nD) = src c 2 := by revert c; decide

theorem duty_bar (c : D4) (k : Fin 3) : c ∈ (talkRd (F := F) pv).duties (barCell (src c k)) 0 := by
  rw [duties_bar]; exact Finset.mem_erase.mpr ⟨(src_ne c k).symm, Finset.mem_univ _⟩

theorem wp_part25 (c : D4) {Q} :
    iprop(Rec pv K ∗ levAts L lv ∗ barIn c)
      ⊢ iprop(((atPos ER (barCell c) 1 ∅ 0 ∗ bigSep (Finset.univ.erase c) (barPay c) ∗ ∃ W, owes (c : Thread nD τ) (OR c) W)
          -∗ Q ⟨c, Scalar.remsi (Scalar.divsi (Dev.word c) 1#32) 4#32, mIota, 64#32, k0_pay29, k0_pay30, mSign⟩)
        -∗ WP (defs := defs) 𝒱 bd c (onBufs (k0_part25 (F := F))) Q) := by
  rw [k0_part25_eq_skeleton]
  unfold onBufs k0_part25_skel barIn
  simp only [semSignalWord, semWaitWord, Prog.lift, Prog.bind_op, Prog.bind_ret, Prog.pure_eq_ret, Prog.bind_assoc, wp_deviceId, bigSep_three]
  rw [dev1 c, dev2 c, dev3 c]
  iintro ⟨#HR, #Hlev, Hat, Hc, ⟨⟨Ht0, Hp0⟩, ⟨Ht1, Hp1⟩, ⟨Ht2, Hp2⟩⟩, ⟨%W, HO⟩⟩ Hk
  iapply (Rounds.wp_signal 𝒱 ER (talkRd pv) (c : Thread nD τ) bd (dst := (src c 0 : Thread nD τ)) (sem := barrier0) (r := 0) (d := c)
      (κ := K (barCell (src c 0))) (duty_bar pv c 0) (amount_bar pv (src c 0) c) () (OR c + oB c 2 + oB c 1) rfl) $$ [HO Ht0 Hp0]
  · isplitr; · iapply (Rec_bar pv K (src c 0)); iexact HR
    isplitl [HO]; · iexact HO
    isplitl [Ht0]; · iexact Ht0
    isplitl [Hp0]; · rw [payload_bar]; iexact Hp0
    iapply (Rec_reached pv K (src c 0)); iexact HR
  iintro HO
  iapply (Rounds.wp_signal 𝒱 ER (talkRd pv) (c : Thread nD τ) bd (dst := (src c 1 : Thread nD τ)) (sem := barrier0) (r := 0) (d := c)
      (κ := K (barCell (src c 1))) (duty_bar pv c 1) (amount_bar pv (src c 1) c) () (OR c + oB c 2) rfl) $$ [HO Ht1 Hp1]
  · isplitr; · iapply (Rec_bar pv K (src c 1)); iexact HR
    isplitl [HO]; · iexact HO
    isplitl [Ht1]; · iexact Ht1
    isplitl [Hp1]; · rw [payload_bar]; iexact Hp1
    iapply (Rec_reached pv K (src c 1)); iexact HR
  iintro HO
  iapply (Rounds.wp_signal 𝒱 ER (talkRd pv) (c : Thread nD τ) bd (dst := (src c 2 : Thread nD τ)) (sem := barrier0) (r := 0) (d := c)
      (κ := K (barCell (src c 2))) (duty_bar pv c 2) (amount_bar pv (src c 2) c) () (OR c) rfl) $$ [HO Ht2 Hp2]
  · isplitr; · iapply (Rec_bar pv K (src c 2)); iexact HR
    isplitl [HO]; · iexact HO
    isplitl [Ht2]; · iexact Ht2
    isplitl [Hp2]; · rw [payload_bar]; iexact Hp2
    iapply (Rec_reached pv K (src c 2)); iexact HR
  iintro HO
  iapply (Rounds.wp_wait_rest_token 𝒱 ER (talkRd pv) (c : Thread nD τ) bd (κ := K (barCell c))
      (wpE_semWait_eq 𝒱 (c : Thread nD τ) bd Set.univ) (Set.mem_univ _) () (O := OR c) (W := W) (R := 0) (m := 0) (T := ∅)
      ((Nat.zero_add _).trans (expect_bar pv c).symm)) $$ [Hc HO Hat]
  · isplitr; · iapply (Rec_bar pv K c); iexact HR
    isplitl [Hc]; · iexact Hc
    isplitl [HO]; · iexact HO
    isplitr; · iapply (mayWait c (.reg barrier0) (OR c) 1 (le_of_eq (lv_bar c)) (above_OR c)); iexact Hlev
    iexact Hat
  iintro ⟨HO, Hat, -, Hpay⟩
  ihave Hpay := (Entails.of_eq (rest_bar pv c)) $$ Hpay
  rw [wp_ret]; imodintro
  unfold mIota mSign
  iapply Hk
  isplitl [Hat]; · iexact Hat
  isplitl [Hpay]; · iexact Hpay
  iexists _; iexact HO

theorem wp_part26 (c : D4) {Q} : Q ⟨mA, mB, mC, mD⟩
      ⊢ WP (defs := defs) 𝒱 bd c (onBufs (k0_part26 (F := F)) mIota 64#32 k0_pay29 k0_pay30 mSign) Q := by
  rw [k0_part26_eq_skeleton]
  unfold onBufs k0_part26_skel mA mB mC mD
  iintro H
  rw [Prog.pure_eq_ret]
  unfold WP
  rw [wp_ret]; imodintro; iexact H

/-! ## The parts that end a half -/

theorem ctx_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_eq_bigSepL_of_eq [0, 1, 2, 3, 4, 5, 6, 7] (by decide) (by decide)]
  rfl

/-- The context loaded whole. -/
theorem wp_ctx (c : D4) (h : Fin 8 → Vec F S512x64 .f32) {α : Type} {hl} {k : Vec F S512x512 .f32 → Prog (TpuEff nD τ sig (Elt F) Λ₀ .tc) α}
    {Q : α → sProp 𝕄} :
    (bigSep Finset.univ fun t : Fin 8 => ctxH c t (h t) : sProp 𝕄)
      ⊢ iprop(((bigSep Finset.univ fun t : Fin 8 => ctxH c t (h t)) -∗ wp frame (wpE defs 𝒱 (c : Thread nD τ) bd) Set.univ (k (ctxRead h)) Q)
        -∗ wp frame (wpE defs 𝒱 (c : Thread nD τ) bd) Set.univ (.op (.load ctxM RW.toLoadRect hl) k) Q) := by
  iintro H Hk
  ihave H := (ctx_join c h) $$ H
  iapply (wp_load_whole_rect 𝒱 (c : Thread nD τ) bd Set.univ (m := ctxM) (r := RW)) $$ H; iintro H
  ihave H := (ctx_split c (ctxJoin h)) $$ H
  iapply Hk
  iapply (show (bigSep Finset.univ fun t : Fin 8 => ctxH c t ((ctxM.access (RC t)).read (Elt F) (ctxJoin h)) : sProp 𝕄)
    ⊢ bigSep Finset.univ fun t : Fin 8 => ctxH c t (h t) from
      bigSep_mono fun t _ => Entails.of_eq (congrArg (ctxH c t) (ctx_read h t).symm)) $$ H

/-- Sends out after the first half's end, and after the second half's start. -/
def sent32 (c : D4) : ℕ := if c = 3 then 0 else if c = 2 then 2 else 1
def sent33 (c : D4) : ℕ := if c.val < 2 then 1 else 2

theorem dev_cases (c : D4) : c = 0 ∨ c = 1 ∨ c = 2 ∨ c = 3 := by revert c; decide

theorem wp_part32 (c : D4) {I : Ins F} (h : Fin 8 → Vec F S512x64 .f32) (v2 : BitVec 32) (w : FVec F S512x768 .bf16) (v248 : FVec F S512x1 .f32)
    (v249 : FVec F S512x512 .bf16) (h7 : h 7 = k0_pay57 v248 v249 (vB I 0 7)) (p0 : pv c 0 = k0_pay59 w (ctxRead h)) (p1 : pv c 1 = k0_pay60 w (ctxRead h))
    {a7 : Vec F S512x64 .f32} {a0 a1 : Vec F S1x256x768 .f32} {Q : PUnit → sProp 𝕄} :
    iprop(Rec pv K ∗ inp c I ∗ (ctxH c 0 (h 0) ∗ ctxH c 1 (h 1) ∗ ctxH c 2 (h 2) ∗ ctxH c 3 (h 3) ∗ ctxH c 4 (h 4) ∗ ctxH c 5 (h 5) ∗ ctxH c 6 (h 6)
        ∗ ctxH c 7 a7) ∗ outH c 0 a0 ∗ outH c 1 a1 ∗ RSst c 0)
      ⊢ iprop(((inp c I ∗ (bigSep Finset.univ fun t : Fin 8 => ctxH c t (h t)) ∗ outH c 0 (pv c 0) ∗ outH c 1 (pv c 1) ∗ RSst c (sent32 c)) -∗ Q ⟨⟩)
        -∗ WP (defs := defs) 𝒱 bd c (onBufs (k0_part32 (F := F)) c v2 w v248 v249) Q) := by
  rw [k0_part32_eq_skeleton]
  unfold onBufs k0_part32_skel
  simp only [Prog.lift, Prog.bind_op, Prog.bind_ret, Prog.pure_eq_ret]
  iintro ⟨#HR, H, ⟨C0, C1, C2, C3, C4, C5, C6, C7⟩, O0, O1, HS⟩ Hk
  iapply (wp_v 𝒱 bd c 0 7) $$ H; iintro H
  iapply (wp_put 𝒱 bd c 7) $$ C7; iintro C7
  rw [← h7]
  ihave HC := (Entails.of_eq (ctx_eight (fun t => ctxH c t (h t))).symm) $$ [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6] <;> iassumption
  iapply (wp_ctx 𝒱 bd c h) $$ HC; iintro HC
  iapply (wp_out 𝒱 bd c 0) $$ O0; iintro O0
  iapply (wp_out 𝒱 bd c 1) $$ O1; iintro O1
  rw [← p0, ← p1]
  rcases dev_cases c with rfl | rfl | rfl | rfl
  · simp only [dif_pos (show k0_cond1 (0 : Dev nD) = 1#1 by decide), dif_neg (show ¬ k0_cond2 (0 : Dev nD) = 1#1 by decide),
      dif_neg (show ¬ k0_cond3 (0 : Dev nD) = 1#1 by decide)]
    iapply (wp_rs_then pv K 𝒱 bd 0 0 1 2 (by decide) (by decide)) $$ [O1 HS]
    · isplitr; · iexact HR
      isplitl [O1]; · iexact O1
      iexact HS
    iintro ⟨O1, HS⟩
    rw [wp_ret]; imodintro
    iapply Hk
    isplitl [H]; · iexact H
    isplitl [HC]; · iexact HC
    isplitl [O0]; · iexact O0
    isplitl [O1]; · iexact O1
    iexact HS
  · simp only [dif_neg (show ¬ k0_cond1 (1 : Dev nD) = 1#1 by decide), dif_pos (show k0_cond2 (1 : Dev nD) = 1#1 by decide),
      dif_neg (show ¬ k0_cond3 (1 : Dev nD) = 1#1 by decide)]
    iapply (wp_rs_then pv K 𝒱 bd 1 0 0 0 (by decide) (by decide)) $$ [O0 HS]
    · isplitr; · iexact HR
      isplitl [O0]; · iexact O0
      iexact HS
    iintro ⟨O0, HS⟩
    rw [wp_ret]; imodintro
    iapply Hk
    isplitl [H]; · iexact H
    isplitl [HC]; · iexact HC
    isplitl [O0]; · iexact O0
    isplitl [O1]; · iexact O1
    iexact HS
  · simp only [dif_neg (show ¬ k0_cond1 (2 : Dev nD) = 1#1 by decide), dif_neg (show ¬ k0_cond2 (2 : Dev nD) = 1#1 by decide),
      dif_pos (show k0_cond3 (2 : Dev nD) = 1#1 by decide)]
    rw [k0_part1_eq_skeleton]
    unfold k0_part1_skel
    simp only [Prog.lift, Prog.bind_op, Prog.bind_ret, Prog.pure_eq_ret]
    iapply (wp_rs_then pv K 𝒱 bd 2 0 0 1 (by decide) (by decide)) $$ [O0 HS]
    · isplitr; · iexact HR
      isplitl [O0]; · iexact O0
      iexact HS
    iintro ⟨O0, HS⟩
    iapply (wp_rs_then pv K 𝒱 bd 2 1 1 0 (by decide) (by decide)) $$ [O1 HS]
    · isplitr; · iexact HR
      isplitl [O1]; · iexact O1
      iexact HS
    iintro ⟨O1, HS⟩
    rw [wp_ret]; imodintro
    iapply Hk
    isplitl [H]; · iexact H
    isplitl [HC]; · iexact HC
    isplitl [O0]; · iexact O0
    isplitl [O1]; · iexact O1
    iexact HS
  · simp only [dif_neg (show ¬ k0_cond1 (3 : Dev nD) = 1#1 by decide), dif_neg (show ¬ k0_cond2 (3 : Dev nD) = 1#1 by decide),
      dif_neg (show ¬ k0_cond3 (3 : Dev nD) = 1#1 by decide)]
    rw [wp_ret]; imodintro
    iapply Hk
    isplitl [H]; · iexact H
    isplitl [HC]; · iexact HC
    isplitl [O0]; · iexact O0
    isplitl [O1]; · iexact O1
    iexact HS

/-- The second half's start, the sends before it made. -/
theorem wp_part33 (c : D4) {I : Ins F} {a0 : Vec F S512x64 .f32}
    {Q : (_ : FVec F S512x512 .bf16) ×' (_ : FVec F S512x512 .f32) ×' FVec F S512 .f32 → sProp 𝕄} :
    iprop(Rec pv K ∗ inp c I ∗ ctxH c 0 a0 ∗ outH c 0 (pv c 0) ∗ outH c 1 (pv c 1) ∗ RSst c (sent32 c))
      ⊢ iprop(((inp c I ∗ ctxH c 0 (k0_pay64 bias (gv I) (xB I 1) (kB I 1 0) (vB I 1 0)) ∗ outH c 0 (pv c 0) ∗ outH c 1 (pv c 1) ∗ RSst c (sent33 c))
          -∗ Q ⟨q1 I, k0_pay65 bias (gv I) (xB I 1) (kB I 1 1), k0_pay66 bias (gv I) (xB I 1) (kB I 1 1)⟩)
        -∗ WP (defs := defs) 𝒱 bd c (onBufs (k0_part33 (F := F)) c bias (gv I)) Q) := by
  rw [k0_part33_eq_skeleton]
  unfold onBufs k0_part33_skel q1
  simp only [Prog.lift, Prog.bind_op, Prog.bind_ret, Prog.pure_eq_ret]
  by_cases h3 : c = 3
  · subst h3
    simp only [dif_pos (show k0_cond4 (3 : Dev nD) = 1#1 by decide)]
    rw [k0_part2_eq_skeleton]
    unfold k0_part2_skel
    simp only [Prog.lift, Prog.bind_op, Prog.bind_ret, Prog.pure_eq_ret]
    iintro ⟨#HR, H, C0, O0, O1, HS⟩ Hk
    iapply (wp_rs_then pv K 𝒱 bd 3 0 0 2 (by decide) (by decide)) $$ [O0 HS]
    · isplitr; · iexact HR
      isplitl [O0]; · iexact O0
      iexact HS
    iintro ⟨O0, HS⟩
    iapply (wp_rs_then pv K 𝒱 bd 3 1 1 1 (by decide) (by decide)) $$ [O1 HS]
    · isplitr; · iexact HR
      isplitl [O1]; · iexact O1
      iexact HS
    iintro ⟨O1, HS⟩
    iapply (wp_x 𝒱 bd 3 1) $$ H; iintro H
    iapply (wp_k 𝒱 bd 3 1 0) $$ H; iintro H
    iapply (wp_v 𝒱 bd 3 1 0) $$ H; iintro H
    iapply (wp_put 𝒱 bd 3 0) $$ C0; iintro C0
    iapply (wp_k 𝒱 bd 3 1 1) $$ H; iintro H
    rw [wp_ret]; imodintro
    iapply Hk
    isplitl [H]; · iexact H
    isplitl [C0]; · iexact C0
    isplitl [O0]; · iexact O0
    isplitl [O1]; · iexact O1
    iexact HS
  · have hs : sent32 c = sent33 c := by revert h3; revert c; decide
    have hc : ¬ k0_cond4 c = 1#1 := by revert h3; revert c; decide
    rw [hs]
    simp only [dif_neg hc]
    iintro ⟨#HR, H, C0, O0, O1, HS⟩ Hk
    iapply (wp_x 𝒱 bd c 1) $$ H; iintro H
    iapply (wp_k 𝒱 bd c 1 0) $$ H; iintro H
    iapply (wp_v 𝒱 bd c 1 0) $$ H; iintro H
    iapply (wp_put 𝒱 bd c 0) $$ C0; iintro C0
    iapply (wp_k 𝒱 bd c 1 1) $$ H; iintro H
    rw [wp_ret]; imodintro
    iapply Hk
    isplitl [H]; · iexact H
    isplitl [C0]; · iexact C0
    isplitl [O0]; · iexact O0
    isplitl [O1]; · iexact O1
    iexact HS

theorem wp_part37 (c : D4) {I : Ins F} (h : Fin 8 → Vec F S512x64 .f32) (w : FVec F S512x768 .bf16) (v411 : FVec F S512x1 .f32)
    (v412 : FVec F S512x512 .bf16) (v413 : Vec F S1x1x512x64 .bf16)
    (h6 : h 6 = k0_pay77 v411 v412 v413) (h7 : h 7 = k0_pay78 bias (q1 I) (kB I 1 7) (vB I 1 7)) (p2 : pv c 2 = k0_pay80 w (ctxRead h))
    {a6 a7 : Vec F S512x64 .f32} {a2 : Vec F S1x256x768 .f32} {Q : FVec F S256x768 .f32 → sProp 𝕄} :
    iprop(inp c I ∗ (ctxH c 0 (h 0) ∗ ctxH c 1 (h 1) ∗ ctxH c 2 (h 2) ∗ ctxH c 3 (h 3) ∗ ctxH c 4 (h 4) ∗ ctxH c 5 (h 5) ∗ ctxH c 6 a6
        ∗ ctxH c 7 a7) ∗ outH c 2 a2)
      ⊢ iprop(((inp c I ∗ (bigSep Finset.univ fun t : Fin 8 => ctxH c t (h t)) ∗ outH c 2 (pv c 2)) -∗ Q (k0_pay81 w (ctxRead h)))
        -∗ WP (defs := defs) 𝒱 bd c (onBufs (k0_part37 (F := F)) bias w (q1 I) v411 v412 v413) Q) := by
  rw [k0_part37_eq_skeleton]
  unfold onBufs k0_part37_skel
  simp only [Prog.lift, Prog.bind_op, Prog.bind_ret, Prog.pure_eq_ret]
  iintro ⟨H, ⟨C0, C1, C2, C3, C4, C5, C6, C7⟩, O2⟩ Hk
  iapply (wp_put 𝒱 bd c 6) $$ C6; iintro C6
  iapply (wp_k 𝒱 bd c 1 7) $$ H; iintro H
  iapply (wp_v 𝒱 bd c 1 7) $$ H; iintro H
  iapply (wp_put 𝒱 bd c 7) $$ C7; iintro C7
  rw [← h6, ← h7]
  ihave HC := (Entails.of_eq (ctx_eight (fun t => ctxH c t (h t))).symm) $$ [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6] <;> iassumption
  iapply (wp_ctx 𝒱 bd c h) $$ HC; iintro HC
  iapply (wp_out 𝒱 bd c 2) $$ O2; iintro O2
  rw [← p2, wp_ret]; imodintro
  iapply Hk
  isplitl [H]; · iexact H
  isplitl [HC] <;> iassumption

end Cert.KernelIdeal.Talk

end
-- ==== Proof.KernelIdealWhole.lean ====
/-
  The kernel's body on one device, from the staged blocks to the rows of all devices in the output.
-/
module

public import proofs.«01_k».proof.Proof.KernelIdealBody

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable (pv : D4 → D4 → Vec F S1x256x768 .f32) (K : GSem nD τ sig → ℕ)

/-! ## What the tail needs -/

/-- The all-gather's part of the ghost state, before it starts. -/
def agRest (c : D4) : sProp 𝕄 :=
  iprop(levAts L lv
    ∗ (bigSep Finset.univ fun s : Fin 3 => iprop(cred (tallyAt (rcvCell c s) () N) ∗ atPos ER (rcvCell c s) 0 ∅ 0))
    ∗ (bigSep Finset.univ fun s : Fin 3 => iprop(cred (tallyAt (agrCell c s) () N) ∗ atPos ER (agrCell c s) 0 ∅ 0))
    ∗ (bigSep Finset.univ fun k : Fin 3 => atPos ER (sndCell c (oth c k)) 0 ∅ 0)
    ∗ (bigSep Finset.univ fun k : Fin 3 => atPos ER (agsCell c k) 0 ∅ 0)
    ∗ (bigSep Finset.univ fun k : Fin 3 => agIn c k)
    ∗ ∃ v : Vec F S256x768 .bf16, agsP c fullShare v)

theorem bigSep_four {M : Type} [URA M] (Φ : D4 → sProp M) : bigSep Finset.univ Φ = iprop(Φ 0 ∗ Φ 1 ∗ Φ 2 ∗ Φ 3) := by
  rw [bigSep_eq_bigSepL_of_eq [0, 1, 2, 3] (by decide) (by decide)]
  rfl
theorem bigSep_own {M : Type} [URA M] (c : D4) (Φ : D4 → sProp M) :
    bigSep Finset.univ Φ = iprop(Φ c ∗ bigSep Finset.univ fun s : Fin 3 => Φ (src c s)) := by
  rw [bigSep_three, bigSep_eq_bigSepL_of_eq [c, src c 0, src c 1, src c 2] (by revert c; decide) (by revert c; decide)]
  rfl

theorem ag_ready (c : D4) :
    iprop(agRest c ∗ RSst c 3 ∗ outH c 0 (pv c 0) ∗ outH c 1 (pv c 1) ∗ outH c 2 (pv c 2) ∗ outH c 3 (pv c 3)) ⊢ agPre pv c := by
  rw [show iprop(outH c 0 (pv c 0) ∗ outH c 1 (pv c 1) ∗ outH c 2 (pv c 2) ∗ outH c 3 (pv c 3))
    = iprop(outH c c (pv c c) ∗ bigSep Finset.univ fun s : Fin 3 => outH c (src c s) (pv c (src c s))) from
      (bigSep_four fun ch => outH c ch (pv c ch)).symm.trans (bigSep_own c fun ch => outH c ch (pv c ch))]
  refine (show iprop(agRest c ∗ (rsOut c 0 ∗ rsOut c 1 ∗ rsOut c 2 ∗ ∃ W, owes (c : Thread nD τ) (OA c) W)
      ∗ outH c c (pv c c) ∗ bigSep Finset.univ fun s : Fin 3 => outH c (src c s) (pv c (src c s))) ⊢ agPre pv c from ?_)
  unfold agRest agPre
  iintro ⟨⟨Hl, Hr, Hg, Hs, Ha, Hi, Hb⟩, ⟨S0, S1, S2, HO⟩, Ho, Hos⟩
  isplitl [Hl]; · iexact Hl
  isplitl [Hr]; · iexact Hr
  isplitl [Hg]; · iexact Hg
  isplitl [Hs S0 S1 S2]
  · iapply (pair3 (fun k => rsOut c k) (fun k => atPos ER (sndCell c (oth c k)) 0 ∅ 0))
    isplitr [Hs]
    · rw [bigSep_three]
      isplitl [S0]; · iexact S0
      isplitl [S1] <;> iassumption
    · iexact Hs
  isplitl [Ha]; · iexact Ha
  isplitl [Hi]; · iexact Hi
  isplitl [Ho]; · iexact Ho
  isplitl [Hos]
  · iapply (show (bigSep Finset.univ fun s : Fin 3 => outH c (src c s) (pv c (src c s)) : sProp 𝕄)
      ⊢ bigSep Finset.univ fun s : Fin 3 => iprop(∃ v : Vec F S1x256x768 .f32, outH c (src c s) v) from
        bigSep_mono fun s _ => held_some (c : Thread nD τ) _ fullShare _) $$ Hos
  isplitl [Hb] <;> iassumption

/-- The tail's part of the ghost state before the barrier: without the slots the barrier hands over. -/
def rsTok (c : D4) (k : Fin 3) : sProp 𝕄 :=
  iprop((∃ v : Vec F S1x256x768 .bf16, sndH c (oth c k) v) ∗ dutyTok ER (sndCell c (oth c k)) 0 0 ∗ reached ER (sndCell c (oth c k)) 0
    ∗ dutyTok ER (rcvCell (oth c k) (slot c (oth c k))) 0 0)
def agTok (c : D4) (k : Fin 3) : sProp 𝕄 :=
  iprop(dutyTok ER (agsCell c k) 0 0 ∗ reached ER (agsCell c k) 0 ∗ dutyTok ER (agrCell (src c k) (slot c (src c k))) 0 0)
def tailIn (c : D4) : sProp 𝕄 :=
  iprop((bigSep Finset.univ fun s : Fin 3 => iprop(cred (tallyAt (rcvCell c s) () N) ∗ atPos ER (rcvCell c s) 0 ∅ 0))
    ∗ (bigSep Finset.univ fun s : Fin 3 => iprop(cred (tallyAt (agrCell c s) () N) ∗ atPos ER (agrCell c s) 0 ∅ 0))
    ∗ (bigSep Finset.univ fun k : Fin 3 => atPos ER (sndCell c (oth c k)) 0 ∅ 0)
    ∗ (bigSep Finset.univ fun k : Fin 3 => atPos ER (agsCell c k) 0 ∅ 0)
    ∗ (bigSep Finset.univ fun k : Fin 3 => rsTok (F := F) c k)
    ∗ (bigSep Finset.univ fun k : Fin 3 => agTok (F := F) c k)
    ∗ ∃ v : Vec F S256x768 .bf16, agsP c fullShare v)

def barRs (c p : D4) : sProp 𝕄 := iprop((∃ v : Vec F S1x256x768 .bf16, rcvH p (slot c p) v) ∗ reached ER (rcvCell p (slot c p)) 0)
def barAg (c p : D4) : sProp 𝕄 := iprop((∃ v : Vec F S1x256x768 .bf16, agrH p (slot c p) v) ∗ reached ER (agrCell p (slot c p)) 0)

theorem barPay_two (c p : D4) : barPay (F := F) c p ⊢ iprop(barRs (F := F) c p ∗ barAg (F := F) c p) := by
  unfold barPay barRs barAg
  iintro ⟨H1, H2, H3, H4⟩
  isplitl [H1 H3]
  · isplitl [H1] <;> iassumption
  · isplitl [H2] <;> iassumption
theorem rsIn_of (c : D4) (k : Fin 3) : iprop(rsTok (F := F) c k ∗ barRs (F := F) c (oth c k)) ⊢ rsIn (F := F) c k := by
  unfold rsTok barRs rsIn
  iintro ⟨⟨H1, H2, H3, H4⟩, H5, H6⟩
  isplitl [H1]; · iexact H1
  isplitl [H5]; · iexact H5
  isplitl [H2]; · iexact H2
  isplitl [H3]; · iexact H3
  isplitl [H4] <;> iassumption
/-- The `k`-th device after `c` hands `c` the slot `c` writes there. -/
theorem agIn_of (c : D4) (k : Fin 3) : iprop(agTok (F := F) c k ∗ barAg (F := F) c (src c k)) ⊢ agIn (F := F) c k := by
  unfold agTok barAg agIn
  iintro ⟨⟨H1, H2, H3⟩, H5, H6⟩
  isplitl [H5]; · iexact H5
  isplitl [H1]; · iexact H1
  isplitl [H2]; · iexact H2
  isplitl [H3] <;> iassumption

theorem barPay_split (c : D4) : bigSep (Finset.univ.erase c) (barPay (F := F) c)
    ⊢ iprop((bigSep Finset.univ fun k : Fin 3 => barRs (F := F) c (oth c k)) ∗ bigSep Finset.univ fun k : Fin 3 => barAg (F := F) c (src c k)) := by
  rw [bigSep_three, bigSep_three, ← bigSep_others' c (barRs (F := F) c), ← bigSep_others c (barAg (F := F) c)]
  exact (bigSep_mono fun p _ => barPay_two c p).trans (Entails.of_eq (bigSep_sep (Finset.univ.erase c) (barRs (F := F) c) (barAg (F := F) c)))

/-- The barrier over, the sends can start. -/
theorem talk_ready (c : D4) :
    iprop(levAts L lv ∗ tailIn c ∗ bigSep (Finset.univ.erase c) (barPay (F := F) c) ∗ ∃ W, owes (c : Thread nD τ) (OR c) W)
      ⊢ iprop(RSst c 0 ∗ agRest (F := F) c) := by
  refine (show _ ⊢ iprop((rsIn c 0 ∗ rsIn c 1 ∗ rsIn c 2 ∗ ∃ W, owes (c : Thread nD τ) (OR c) W) ∗ agRest (F := F) c) from ?_)
  unfold tailIn agRest
  iintro ⟨Hl, ⟨Hr, Hg, Hs, Ha, Hrt, Hat, Hb⟩, Hp, HO⟩
  ihave Hp := (barPay_split (F := F) c) $$ Hp
  icases Hp with ⟨Hpr, Hpa⟩
  ihave Hrt := (pair3 (fun k => rsTok (F := F) c k) (fun k => barRs (F := F) c (oth c k))) $$ [Hrt Hpr]
  · isplitl [Hrt] <;> iassumption
  ihave Hat := (pair3 (fun k => agTok (F := F) c k) (fun k => barAg (F := F) c (src c k))) $$ [Hat Hpa]
  · isplitl [Hat] <;> iassumption
  ihave Hrt := (show (bigSep Finset.univ fun k : Fin 3 => iprop(rsTok (F := F) c k ∗ barRs (F := F) c (oth c k)))
      ⊢ bigSep Finset.univ fun k : Fin 3 => rsIn (F := F) c k from bigSep_mono fun k _ => rsIn_of c k) $$ Hrt
  ihave Hat := (show (bigSep Finset.univ fun k : Fin 3 => iprop(agTok (F := F) c k ∗ barAg (F := F) c (src c k)))
      ⊢ bigSep Finset.univ fun k : Fin 3 => agIn (F := F) c k from bigSep_mono fun k _ => agIn_of c k) $$ Hat
  ihave Hrt := (Entails.of_eq (bigSep_three fun k => rsIn (F := F) c k)) $$ Hrt
  icases Hrt with ⟨R0, R1, R2⟩
  isplitl [R0 R1 R2 HO]
  · isplitl [R0]; · iexact R0
    isplitl [R1]; · iexact R1
    isplitl [R2] <;> iassumption
  isplitl [Hl]; · iexact Hl
  isplitl [Hr]; · iexact Hr
  isplitl [Hg]; · iexact Hg
  isplitl [Hs]; · iexact Hs
  isplitl [Ha]; · iexact Ha
  isplitl [Hat] <;> iassumption

/-! ## The tail as one chain of operations -/

section Flat

variable {α : Type} (rest : Prog (TpuEff nD τ sig (Elt F) Λ₀ .tc) α)

def agReduceK (c : D4) : Prog (TpuEff nD τ sig (Elt F) Λ₀ .tc) α :=
  .op (.waitDma2 (qRcv 0) (rcvSq 0) (rcvSq 0) (word_rcv 0) (word_rcv 0)) fun _ =>
  .op (.waitDma2 (qRcv 1) (rcvSq 1) (rcvSq 1) (word_rcv 1) (word_rcv 1)) fun _ =>
  .op (.waitDma2 (qRcv 2) (rcvSq 2) (rcvSq 2) (word_rcv 2) (word_rcv 2)) fun _ =>
  .op (.load outM (R4 c).toLoadRect (View.loadsAt_vmem h_S1x256x768)) fun x =>
  .op (.load rcvM (R3 0).toLoadRect (View.loadsAt_vmem h_S1x256x768)) fun r0 =>
  .op (.load rcvM (R3 1).toLoadRect (View.loadsAt_vmem h_S1x256x768)) fun r1 =>
  .op (.load rcvM (R3 2).toLoadRect (View.loadsAt_vmem h_S1x256x768)) fun r2 =>
  .op (.load outM (R4 c).toLoadRect (View.loadsAt_vmem h_S1x256x768)) fun _ =>
  .op (.store outM (R4 c) (k0_pay9 x r0 r1 r2) Finset.univ (stores_out c) (.inl rfl)) fun _ =>
  .op (.load outM (R4 c).toLoadRect (View.loadsAt_vmem h_S1x256x768)) fun y =>
  .op (.load agsM RZ.toLoadRect (View.loadsAt_vmem h_S256x768)) fun _ =>
  .op (.store agsM RZ (k0_pay10 y) Finset.univ stores_ags (.inl rfl)) fun _ => rest
def agSendK (ch : D4) (s k : Fin 3) : Prog (TpuEff nD τ sig (Elt F) Λ₀ .tc) α :=
  .op (.enqueueDma agsM (.remote (Dev.tc ch) (agrSq s) (.dma (qAgs k))) (.dma (qAgr s)) word_ags (word_agr s) ⟨⟨rfl, Or.inl rfl⟩, trivial⟩) fun _ => rest
def agFetchK (ch : D4) (s : Fin 3) : Prog (TpuEff nD τ sig (Elt F) Λ₀ .tc) α :=
  .op (.waitDma2 (qAgr s) (agrSq s) (agrSq s) (word_agr s) (word_agr s)) fun _ =>
  .op (.load agrM (R3 s).toLoadRect (View.loadsAt_vmem h_S1x256x768)) fun g =>
  .op (.load outM (R4 ch).toLoadRect (View.loadsAt_vmem h_S1x256x768)) fun _ =>
  .op (.store outM (R4 ch) (k0_pay11 g) Finset.univ (stores_out _) (.inl rfl)) fun _ => rest
def sndDrainK (ch : D4) : Prog (TpuEff nD τ sig (Elt F) Λ₀ .tc) α :=
  .op (.waitDma2 (qSnd ch) (sndSq ch) (sndSq ch) (word_snd _) (word_snd _)) fun _ => rest
def agsDrainK (s k : Fin 3) : Prog (TpuEff nD τ sig (Elt F) Λ₀ .tc) α :=
  .op (.waitDma2 (qAgs k) (agrSq s) agsM (word_agr _) word_ags) fun _ => rest

theorem agReduce_bind (c : D4) : (agReduce (F := F) c >>= fun _ => rest) = agReduceK rest c := rfl
theorem agSend_bind (ch : D4) (s k : Fin 3) : (agSendTo (F := F) ch s k >>= fun _ => rest) = agSendK rest ch s k := rfl
theorem agFetch_bind (c : D4) (s : Fin 3) : (agFetch (F := F) c s >>= fun _ => rest) = agFetchK rest (src c s) s := rfl
theorem sndDrain_bind (c : D4) (k : Fin 3) : (sndDrain (F := F) c k >>= fun _ => rest) = sndDrainK rest (oth c k) := rfl
theorem agsDrain_bind (c : D4) (k : Fin 3) : (agsDrain (F := F) c k >>= fun _ => rest) = agsDrainK rest (slot c (src c k)) k := rfl

/-- Device `c`'s tail; `a`, `s`, `b` list the devices written to, the slots written there, the devices sent to. -/
def agFlat (c a0 a1 a2 : D4) (s0 s1 s2 : Fin 3) (b0 b1 b2 : D4) : Prog (TpuEff nD τ sig (Elt F) Λ₀ .tc) α :=
  agReduceK (agSendK (agSendK (agSendK (agFetchK (agFetchK (agFetchK
    (sndDrainK (sndDrainK (sndDrainK (agsDrainK (agsDrainK (agsDrainK rest s2 2) s1 1) s0 0) b2) b1) b0)
    a2 2) a1 1) a0 0) a2 s2 2) a1 s1 1) a0 s0 0) c

theorem agFlat_eq (c a0 a1 a2 : D4) (s0 s1 s2 : Fin 3) (b0 b1 b2 : D4) (ha0 : src c 0 = a0) (ha1 : src c 1 = a1) (ha2 : src c 2 = a2)
    (hs0 : slot c a0 = s0) (hs1 : slot c a1 = s1) (hs2 : slot c a2 = s2) (hb0 : oth c 0 = b0) (hb1 : oth c 1 = b1) (hb2 : oth c 2 = b2) :
    (agProg (F := F) c >>= fun _ => rest) = agFlat rest c a0 a1 a2 s0 s1 s2 b0 b1 b2 := by
  subst ha0 ha1 ha2 hs0 hs1 hs2 hb0 hb1 hb2
  unfold agProg thrice agFlat
  rfl

end Flat

theorem op_congr {α X : Type} {e e' : TpuEff nD τ sig (Elt F) Λ₀ .tc X} {k k' : X → Prog (TpuEff nD τ sig (Elt F) Λ₀ .tc) α} (h : e = e')
    (hk : ∀ x, k x = k' x) : Prog.op e k = Prog.op e' k' := by
  subst h; exact congrArg _ (funext hk)

variable {defs : Defs nD τ sig (Elt F) Λ₀} (𝒱 : Variants) (bd : Option 𝒱.V)

theorem wp_ag_flat (c a0 a1 a2 : D4) (s0 s1 s2 : Fin 3) (b0 b1 b2 : D4) (ha : src c 0 = a0 ∧ src c 1 = a1 ∧ src c 2 = a2)
    (hs : slot c a0 = s0 ∧ slot c a1 = s1 ∧ slot c a2 = s2) (hb : oth c 0 = b0 ∧ oth c 1 = b1 ∧ oth c 2 = b2) {α : Type}
    {rest : Prog (TpuEff nD τ sig (Elt F) Λ₀ .tc) α} {Q : α → sProp 𝕄} :
    iprop(Rec pv K ∗ agPre pv c)
      ⊢ iprop((agPost pv c -∗ wp frame (wpE defs 𝒱 (c : Thread nD τ) bd) Set.univ rest Q)
        -∗ wp frame (wpE defs 𝒱 (c : Thread nD τ) bd) Set.univ (agFlat rest c a0 a1 a2 s0 s1 s2 b0 b1 b2) Q) := by
  rw [← agFlat_eq rest c a0 a1 a2 s0 s1 s2 b0 b1 b2 ha.1 ha.2.1 ha.2.2 hs.1 hs.2.1 hs.2.2 hb.1 hb.2.1 hb.2.2]
  exact wp_ag_then pv K 𝒱 bd c

/-- After the second half: on devices 0 and 1 the tail is done, on 2 and 3 it is still to run. -/
def tail38 (c : D4) : sProp 𝕄 := if c.val < 2 then agPost pv c else agPre pv c

theorem tail38_lo (c : D4) (h : c.val < 2) : tail38 pv c = agPost pv c := if_pos h
theorem tail38_hi (c : D4) (h : ¬ c.val < 2) : tail38 pv c = agPre pv c := if_neg h

/-- What a device's body starts from, the operands and the ghost state of the exchange. -/
def bodyIn (c : D4) (I : Ins F) : sProp 𝕄 :=
  iprop(inp c I ∗ (bigSep Finset.univ fun t : Fin 8 => iprop(∃ v : Vec F S512x64 .f32, ctxH c t v))
    ∗ (bigSep Finset.univ fun ch : D4 => iprop(∃ v : Vec F S1x256x768 .f32, outH c ch v)) ∗ barIn (F := F) c ∗ tailIn c)

/-- What the body's first part hands on. -/
def ret38 (c : D4) : (_ : Dev nD) ×' (_ : BitVec 32) ×' (_ : BitVec 32) ×' BitVec 32 :=
  ⟨c, Scalar.remsi (Scalar.divsi (Dev.word c) 1#32) 4#32,
    Scalar.extui (Scalar.cmpi .eq (Scalar.remsi (Scalar.divsi (Dev.word c) 1#32) 4#32) 2#32), 0#32⟩

set_option maxHeartbeats 1000000 in
theorem wp_part38 (c : D4) {I : Ins F} (hp : ∀ ch, pv c ch = partOut I ch)
    {Q : (_ : Dev nD) ×' (_ : BitVec 32) ×' (_ : BitVec 32) ×' BitVec 32 → sProp 𝕄} :
    iprop(Rec pv K ∗ levAts L lv ∗ bodyIn c I)
      ⊢ iprop(((inp c I ∗ (bigSep Finset.univ fun t : Fin 8 => ctxH c t (hv1 I t)) ∗ atPos ER (barCell c) 1 ∅ 0 ∗ tail38 pv c)
          -∗ Q (ret38 c))
        -∗ WP (defs := defs) 𝒱 bd c (onBufs (k0_part38 (F := F))) Q) := by
  rw [k0_part38_eq_skeleton]
  unfold onBufs k0_part38_skel bodyIn WP
  rw [ctx_eight, bigSep_four]
  iintro ⟨#HR, #Hl, H, ⟨⟨%a0, C0⟩, ⟨%a1, C1⟩, ⟨%a2, C2⟩, ⟨%a3, C3⟩, ⟨%a4, C4⟩, ⟨%a5, C5⟩, ⟨%a6, C6⟩, ⟨%a7, C7⟩⟩,
    ⟨⟨%o0, O0⟩, ⟨%o1, O1⟩, ⟨%o2, O2⟩, ⟨%o3, O3⟩⟩, Hbar, HT⟩ Hk
  rw [wp_bind]
  iapply (wp_part25 pv K 𝒱 bd c) $$ [Hbar]
  · isplitr; · iexact HR
    isplitr; · iexact Hl
    iexact Hbar
  iintro ⟨Hat, Hp, HO⟩
  ihave HS := (talk_ready (F := F) c) $$ [HT Hp HO]
  · isplitr; · iexact Hl
    isplitl [HT]; · iexact HT
    isplitl [Hp] <;> iassumption
  icases HS with ⟨HS, HA⟩
  try dsimp (config := { zeta := false }) only
  rw [wp_bind]
  iapply (wp_part26 𝒱 bd c)
  try dsimp (config := { zeta := false }) only
  rw [wp_bind]
  iapply (wp_part27 𝒱 bd c) $$ H; iintro H
  try dsimp (config := { zeta := false }) only
  rw [wp_bind]
  iapply (wp_part28 𝒱 bd c) $$ [H C0 C1]
  · isplitl [H]; · iexact H
    isplitl [C0] <;> iassumption
  iintro ⟨H, C0, C1⟩
  try dsimp (config := { zeta := false }) only
  rw [wp_bind]
  iapply (wp_part29 𝒱 bd c) $$ [H C2 C3]
  · isplitl [H]; · iexact H
    isplitl [C2] <;> iassumption
  iintro ⟨H, C2, C3⟩
  try dsimp (config := { zeta := false }) only
  rw [wp_bind]
  iapply (wp_part30 𝒱 bd c) $$ [H C4]
  · isplitl [H] <;> iassumption
  iintro ⟨H, C4⟩
  try dsimp (config := { zeta := false }) only
  rw [wp_bind]
  iapply (wp_part31 𝒱 bd c) $$ [H C5 C6]
  · isplitl [H]; · iexact H
    isplitl [C5] <;> iassumption
  iintro ⟨H, C5, C6⟩
  try dsimp (config := { zeta := false }) only
  rw [wp_bind]
  iapply (wp_part32 pv K 𝒱 bd c (hv0 I) _ (ov I) _ _ rfl (hp 0) (hp 1)) $$ [H C0 C1 C2 C3 C4 C5 C6 C7 O0 O1 HS]
  · isplitr; · iexact HR
    isplitl [H]; · iexact H
    isplitl [C0 C1 C2 C3 C4 C5 C6 C7]
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [O0]; · iexact O0
    isplitl [O1] <;> iassumption
  iintro ⟨H, HC, O0, O1, HS⟩
  ihave HC := (Entails.of_eq (ctx_eight (fun t => ctxH c t (hv0 I t)))) $$ HC
  icases HC with ⟨C0, C1, C2, C3, C4, C5, C6, C7⟩
  try dsimp (config := { zeta := false }) only
  rw [wp_bind]
  iapply (wp_part33 pv K 𝒱 bd c) $$ [H C0 O0 O1 HS]
  · isplitr; · iexact HR
    isplitl [H]; · iexact H
    isplitl [C0]; · iexact C0
    isplitl [O0]; · iexact O0
    isplitl [O1] <;> iassumption
  iintro ⟨H, C0, O0, O1, HS⟩
  try dsimp (config := { zeta := false }) only
  rw [wp_bind]
  iapply (wp_part34 𝒱 bd c) $$ [H C1 C2]
  · isplitl [H]; · iexact H
    isplitl [C1] <;> iassumption
  iintro ⟨H, C1, C2⟩
  try dsimp (config := { zeta := false }) only
  rw [wp_bind]
  iapply (wp_part35 𝒱 bd c) $$ [H C3 C4]
  · isplitl [H]; · iexact H
    isplitl [C3] <;> iassumption
  iintro ⟨H, C3, C4⟩
  try dsimp (config := { zeta := false }) only
  rw [wp_bind]
  iapply (wp_part36 𝒱 bd c) $$ [H C4 C5]
  · isplitl [H]; · iexact H
    isplitl [C4] <;> iassumption
  iintro ⟨H, C4, C5⟩
  try dsimp (config := { zeta := false }) only
  rw [wp_bind]
  iapply (wp_part37 pv 𝒱 bd c (hv1 I) (ov I) _ _ _ rfl rfl (hp 2)) $$ [H C0 C1 C2 C3 C4 C5 C6 C7 O2]
  · isplitl [H]; · iexact H
    isplitl [C0 C1 C2 C3 C4 C5 C6 C7]
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    iexact O2
  iintro ⟨H, HC, O2⟩
  try dsimp (config := { zeta := false }) only
  rcases dev_cases c with rfl | rfl | rfl | rfl
  · simp (config := { zeta := false }) only [dif_pos (show k0_cond5 (0 : Dev nD) = 1#1 by decide),
      dif_neg (show ¬ k0_cond6 (0 : Dev nD) = 1#1 by decide),
      dif_neg (show ¬ k0_cond7 (0 : Dev nD) = 1#1 by decide),
      dif_neg (show ¬ k0_cond8 (0 : Dev nD) = 1#1 by decide),
      dif_pos (show k0_cond9 (0 : Dev nD) = 1#1 by decide),
      dif_neg (show ¬ k0_cond10 (0 : Dev nD) = 1#1 by decide)]
    simp only [Prog.lift, Prog.bind_op, Prog.bind_ret, Prog.pure_eq_ret]
    iapply (wp_out 𝒱 bd 0 3) $$ O3; iintro O3
    rw [show k0_pay82 (k0_pay81 (ov I) (ctxRead (hv1 I))) = pv 0 3 from (hp 3).symm]
    rw [k0_part3_eq_skeleton, k0_part5_eq_skeleton, k0_part6_eq_skeleton, k0_part7_eq_skeleton, k0_part8_eq_skeleton, k0_part9_eq_skeleton]
    unfold k0_part3_skel k0_part5_skel k0_part6_skel k0_part7_skel k0_part8_skel k0_part9_skel
    simp only [Prog.lift, Prog.bind_op, Prog.bind_ret, Prog.pure_eq_ret]
    iapply (wp_rs_then pv K 𝒱 bd 0 1 2 1 (by decide) (by decide)) $$ [O2 HS]
    · isplitr; · iexact HR
      isplitl [O2]; · iexact O2
      iexact HS
    iintro ⟨O2, HS⟩
    iapply (wp_rs_then pv K 𝒱 bd 0 2 3 0 (by decide) (by decide)) $$ [O3 HS]
    · isplitr; · iexact HR
      isplitl [O3]; · iexact O3
      iexact HS
    iintro ⟨O3, HS⟩
    ihave HS := (ag_ready pv 0) $$ [HA HS O0 O1 O2 O3]
    · isplitl [HA]; · iexact HA
      isplitl [HS]; · iexact HS
      isplitl [O0]; · iexact O0
      isplitl [O1]; · iexact O1
      isplitl [O2] <;> iassumption
    generalize hP : (Prog.op _ _ : Prog (TpuEff nD τ sig (Elt F) Λ₀ .tc) _) = P
    have hE : P = agFlat (.ret (ret38 0)) 0 1 2 3 2 1 0 1 2 3 := by
      rw [← hP]
      unfold agFlat agReduceK agSendK agFetchK sndDrainK agsDrainK
      repeat' (refine op_congr (by rfl) fun _ => ?_)
      rfl
    rw [hE]
    iapply (wp_ag_flat pv K 𝒱 bd 0 1 2 3 2 1 0 1 2 3 (by decide) (by decide) (by decide)) $$ [HS]
    · isplitr; · iexact HR
      iexact HS
    iintro HS
    ihave HS := (Entails.of_eq (tail38_lo pv 0 (by decide)).symm) $$ HS
    rw [wp_ret]; imodintro
    iapply Hk
    isplitl [H]; · iexact H
    isplitl [HC]; · iexact HC
    isplitl [Hat]; · iexact Hat
    iexact HS
  · simp (config := { zeta := false }) only [dif_neg (show ¬ k0_cond5 (1 : Dev nD) = 1#1 by decide),
      dif_pos (show k0_cond6 (1 : Dev nD) = 1#1 by decide),
      dif_neg (show ¬ k0_cond7 (1 : Dev nD) = 1#1 by decide),
      dif_neg (show ¬ k0_cond8 (1 : Dev nD) = 1#1 by decide),
      dif_neg (show ¬ k0_cond9 (1 : Dev nD) = 1#1 by decide),
      dif_pos (show k0_cond10 (1 : Dev nD) = 1#1 by decide)]
    simp only [Prog.lift, Prog.bind_op, Prog.bind_ret, Prog.pure_eq_ret]
    iapply (wp_out 𝒱 bd 1 3) $$ O3; iintro O3
    rw [show k0_pay82 (k0_pay81 (ov I) (ctxRead (hv1 I))) = pv 1 3 from (hp 3).symm]
    rw [k0_part4_eq_skeleton, k0_part10_eq_skeleton, k0_part11_eq_skeleton, k0_part12_eq_skeleton, k0_part13_eq_skeleton, k0_part14_eq_skeleton]
    unfold k0_part4_skel k0_part10_skel k0_part11_skel k0_part12_skel k0_part13_skel k0_part14_skel
    simp only [Prog.lift, Prog.bind_op, Prog.bind_ret, Prog.pure_eq_ret]
    iapply (wp_rs_then pv K 𝒱 bd 1 1 2 2 (by decide) (by decide)) $$ [O2 HS]
    · isplitr; · iexact HR
      isplitl [O2]; · iexact O2
      iexact HS
    iintro ⟨O2, HS⟩
    iapply (wp_rs_then pv K 𝒱 bd 1 2 3 1 (by decide) (by decide)) $$ [O3 HS]
    · isplitr; · iexact HR
      isplitl [O3]; · iexact O3
      iexact HS
    iintro ⟨O3, HS⟩
    ihave HS := (ag_ready pv 1) $$ [HA HS O0 O1 O2 O3]
    · isplitl [HA]; · iexact HA
      isplitl [HS]; · iexact HS
      isplitl [O0]; · iexact O0
      isplitl [O1]; · iexact O1
      isplitl [O2] <;> iassumption
    generalize hP : (Prog.op _ _ : Prog (TpuEff nD τ sig (Elt F) Λ₀ .tc) _) = P
    have hE : P = agFlat (.ret (ret38 1)) 1 2 3 0 2 1 0 0 2 3 := by
      rw [← hP]
      unfold agFlat agReduceK agSendK agFetchK sndDrainK agsDrainK
      repeat' (refine op_congr (by rfl) fun _ => ?_)
      rfl
    rw [hE]
    iapply (wp_ag_flat pv K 𝒱 bd 1 2 3 0 2 1 0 0 2 3 (by decide) (by decide) (by decide)) $$ [HS]
    · isplitr; · iexact HR
      iexact HS
    iintro HS
    ihave HS := (Entails.of_eq (tail38_lo pv 1 (by decide)).symm) $$ HS
    rw [wp_ret]; imodintro
    iapply Hk
    isplitl [H]; · iexact H
    isplitl [HC]; · iexact HC
    isplitl [Hat]; · iexact Hat
    iexact HS
  · simp (config := { zeta := false }) only [dif_neg (show ¬ k0_cond5 (2 : Dev nD) = 1#1 by decide),
      dif_neg (show ¬ k0_cond6 (2 : Dev nD) = 1#1 by decide),
      dif_pos (show k0_cond7 (2 : Dev nD) = 1#1 by decide),
      dif_neg (show ¬ k0_cond8 (2 : Dev nD) = 1#1 by decide),
      dif_neg (show ¬ k0_cond9 (2 : Dev nD) = 1#1 by decide),
      dif_neg (show ¬ k0_cond10 (2 : Dev nD) = 1#1 by decide)]
    simp only [Prog.lift, Prog.bind_op, Prog.bind_ret, Prog.pure_eq_ret]
    iapply (wp_out 𝒱 bd 2 3) $$ O3; iintro O3
    rw [show k0_pay82 (k0_pay81 (ov I) (ctxRead (hv1 I))) = pv 2 3 from (hp 3).symm]
    iapply (wp_rs_then pv K 𝒱 bd 2 2 3 2 (by decide) (by decide)) $$ [O3 HS]
    · isplitr; · iexact HR
      isplitl [O3]; · iexact O3
      iexact HS
    iintro ⟨O3, HS⟩
    ihave HS := (ag_ready pv 2) $$ [HA HS O0 O1 O2 O3]
    · isplitl [HA]; · iexact HA
      isplitl [HS]; · iexact HS
      isplitl [O0]; · iexact O0
      isplitl [O1]; · iexact O1
      isplitl [O2] <;> iassumption
    rw [show (⟨_, _, _, _⟩ : (_ : Dev nD) ×' (_ : BitVec 32) ×' (_ : BitVec 32) ×' BitVec 32) = ret38 2 from rfl]
    ihave HS := (Entails.of_eq (tail38_hi pv 2 (by decide)).symm) $$ HS
    rw [wp_ret]; imodintro
    iapply Hk
    isplitl [H]; · iexact H
    isplitl [HC]; · iexact HC
    isplitl [Hat]; · iexact Hat
    iexact HS
  · simp (config := { zeta := false }) only [dif_neg (show ¬ k0_cond5 (3 : Dev nD) = 1#1 by decide),
      dif_neg (show ¬ k0_cond6 (3 : Dev nD) = 1#1 by decide),
      dif_neg (show ¬ k0_cond7 (3 : Dev nD) = 1#1 by decide),
      dif_pos (show k0_cond8 (3 : Dev nD) = 1#1 by decide),
      dif_neg (show ¬ k0_cond9 (3 : Dev nD) = 1#1 by decide),
      dif_neg (show ¬ k0_cond10 (3 : Dev nD) = 1#1 by decide)]
    simp only [Prog.lift, Prog.bind_op, Prog.bind_ret, Prog.pure_eq_ret]
    iapply (wp_out 𝒱 bd 3 3) $$ O3; iintro O3
    rw [show k0_pay82 (k0_pay81 (ov I) (ctxRead (hv1 I))) = pv 3 3 from (hp 3).symm]
    iapply (wp_rs_then pv K 𝒱 bd 3 2 2 0 (by decide) (by decide)) $$ [O2 HS]
    · isplitr; · iexact HR
      isplitl [O2]; · iexact O2
      iexact HS
    iintro ⟨O2, HS⟩
    ihave HS := (ag_ready pv 3) $$ [HA HS O0 O1 O2 O3]
    · isplitl [HA]; · iexact HA
      isplitl [HS]; · iexact HS
      isplitl [O0]; · iexact O0
      isplitl [O1]; · iexact O1
      isplitl [O2] <;> iassumption
    rw [show (⟨_, _, _, _⟩ : (_ : Dev nD) ×' (_ : BitVec 32) ×' (_ : BitVec 32) ×' BitVec 32) = ret38 3 from rfl]
    ihave HS := (Entails.of_eq (tail38_hi pv 3 (by decide)).symm) $$ HS
    rw [wp_ret]; imodintro
    iapply Hk
    isplitl [H]; · iexact H
    isplitl [HC]; · iexact HC
    isplitl [Hat]; · iexact Hat
    iexact HS

/-- The body, from what it starts with to the rows of all devices. -/
theorem wp_body (c : D4) {I : Ins F} (hp : ∀ ch, pv c ch = partOut I ch) {Q : PUnit → sProp 𝕄} :
    iprop(Rec pv K ∗ levAts L lv ∗ bodyIn c I)
      ⊢ iprop(((inp c I ∗ (bigSep Finset.univ fun t : Fin 8 => ctxH c t (hv1 I t)) ∗ atPos ER (barCell c) 1 ∅ 0 ∗ agPost pv c) -∗ Q ⟨⟩)
        -∗ WP (defs := defs) 𝒱 bd c (onBufs (cc0_body (F := F))) Q) := by
  rw [cc0_body_eq_skeleton]
  unfold onBufs cc0_body_skel
  simp only [wp_bind]
  iintro ⟨#HR, #Hl, HB⟩ Hk
  iapply (wp_part38 pv K 𝒱 bd c hp) $$ [HB]
  · isplitr; · iexact HR
    isplitr; · iexact Hl
    iexact HB
  iintro ⟨H, HC, Hat, HS⟩
  unfold ret38
  simp only [Prog.lift, Prog.bind_op, Prog.bind_ret, Prog.pure_eq_ret]
  rcases dev_cases c with rfl | rfl | rfl | rfl
  · simp only [dif_neg (show ¬ k0_cond11 (0 : Dev nD) = 1#1 by decide),
      dif_neg (show ¬ k0_cond12 (0 : Dev nD) = 1#1 by decide)]
    ihave HS := (Entails.of_eq (tail38_lo pv 0 (by decide))) $$ HS
    rw [wp_ret]; imodintro
    iapply Hk
    isplitl [H]; · iexact H
    isplitl [HC]; · iexact HC
    isplitl [Hat]; · iexact Hat
    iexact HS
  · simp only [dif_neg (show ¬ k0_cond11 (1 : Dev nD) = 1#1 by decide),
      dif_neg (show ¬ k0_cond12 (1 : Dev nD) = 1#1 by decide)]
    ihave HS := (Entails.of_eq (tail38_lo pv 1 (by decide))) $$ HS
    rw [wp_ret]; imodintro
    iapply Hk
    isplitl [H]; · iexact H
    isplitl [HC]; · iexact HC
    isplitl [Hat]; · iexact Hat
    iexact HS
  · simp only [dif_pos (show k0_cond11 (2 : Dev nD) = 1#1 by decide),
      dif_neg (show ¬ k0_cond12 (2 : Dev nD) = 1#1 by decide)]
    ihave HS := (Entails.of_eq (tail38_hi pv 2 (by decide))) $$ HS
    rw [k0_part15_eq_skeleton, k0_part16_eq_skeleton, k0_part17_eq_skeleton, k0_part18_eq_skeleton, k0_part19_eq_skeleton]
    unfold k0_part15_skel k0_part16_skel k0_part17_skel k0_part18_skel k0_part19_skel
    simp only [Prog.lift, Prog.bind_op, Prog.bind_ret, Prog.pure_eq_ret]
    generalize hP : (Prog.op _ _ : Prog (TpuEff nD τ sig (Elt F) Λ₀ .tc) _) = P
    have hE : P = agFlat (.ret ⟨⟩) 2 3 0 1 2 1 0 0 1 3 := by
      rw [← hP]
      unfold agFlat agReduceK agSendK agFetchK sndDrainK agsDrainK
      repeat' (refine op_congr (by rfl) fun _ => ?_)
      rfl
    rw [hE]
    iapply (wp_ag_flat pv K 𝒱 bd 2 3 0 1 2 1 0 0 1 3 (by decide) (by decide) (by decide)) $$ [HS]
    · isplitr; · iexact HR
      iexact HS
    iintro HS
    rw [wp_ret]; imodintro
    iapply Hk
    isplitl [H]; · iexact H
    isplitl [HC]; · iexact HC
    isplitl [Hat]; · iexact Hat
    iexact HS
  · simp only [dif_neg (show ¬ k0_cond11 (3 : Dev nD) = 1#1 by decide),
      dif_pos (show k0_cond12 (3 : Dev nD) = 1#1 by decide)]
    ihave HS := (Entails.of_eq (tail38_hi pv 3 (by decide))) $$ HS
    rw [k0_part20_eq_skeleton, k0_part21_eq_skeleton, k0_part22_eq_skeleton, k0_part23_eq_skeleton, k0_part24_eq_skeleton]
    unfold k0_part20_skel k0_part21_skel k0_part22_skel k0_part23_skel k0_part24_skel
    simp only [Prog.lift, Prog.bind_op, Prog.bind_ret, Prog.pure_eq_ret]
    generalize hP : (Prog.op _ _ : Prog (TpuEff nD τ sig (Elt F) Λ₀ .tc) _) = P
    have hE : P = agFlat (.ret ⟨⟩) 3 0 1 2 2 1 0 0 1 2 := by
      rw [← hP]
      unfold agFlat agReduceK agSendK agFetchK sndDrainK agsDrainK
      repeat' (refine op_congr (by rfl) fun _ => ?_)
      rfl
    rw [hE]
    iapply (wp_ag_flat pv K 𝒱 bd 3 0 1 2 2 1 0 0 1 2 (by decide) (by decide) (by decide)) $$ [HS]
    · isplitr; · iexact HR
      iexact HS
    iintro HS
    rw [wp_ret]; imodintro
    iapply Hk
    isplitl [H]; · iexact H
    isplitl [HC]; · iexact HC
    isplitl [Hat]; · iexact Hat
    iexact HS

end Cert.KernelIdeal.Talk

end
-- ==== Proof.KernelIdealState.lean ====
module

public import proofs.«01_k».proof.Proof.KernelIdealWhole
public import Idealize.ShloMosaic.Lib.Rounds.Family
public import Idealize.ShloMosaic.Lib.Pipeline.RegionTalk

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable (pv : D4 → D4 → Vec F S1x256x768 .f32) (K : GSem nD τ sig → ℕ)

/-! ## Rows of the output and slots of the buffers -/

theorem R4_mem (t : D4) (i : S4x256x768.Idx) : i ∈ (R4 t).set ↔ (i 0).val = t.val := by
  rw [Rect.mem_set_unit]
  constructor
  · intro H
    have h1 : t.val ≤ (i 0).val := (H 0).1
    have h2 : (i 0).val < t.val + 1 := (H 0).2
    omega
  · intro H a
    have hi := (i a).isLt
    match a with
    | 0 => exact ⟨by show t.val ≤ (i 0).val; omega, by show (i 0).val < t.val + 1; omega⟩
    | 1 => exact ⟨Nat.zero_le _, by show (i 1).val < 0 + 256; exact Nat.lt_of_lt_of_eq hi rfl⟩
    | 2 => exact ⟨Nat.zero_le _, by show (i 2).val < 0 + 768; exact Nat.lt_of_lt_of_eq hi rfl⟩
theorem R4_disjoint (t t' : D4) (hn : t ≠ t') : Disjoint (R4 t).set (R4 t').set := by
  rw [Finset.disjoint_left]
  intro i h1 h2
  exact hn (Fin.ext (((R4_mem t i).mp h1).symm.trans ((R4_mem t' i).mp h2)))
theorem R4_cover (i : S4x256x768.Idx) : ∃ t, i ∈ (R4 t).set := ⟨⟨(i 0).val, (i 0).isLt⟩, (R4_mem _ i).mpr rfl⟩

theorem R3_mem (t : Fin 3) (i : S3x256x768.Idx) : i ∈ (R3 t).set ↔ (i 0).val = t.val := by
  rw [Rect.mem_set_unit]
  constructor
  · intro H
    have h1 : t.val ≤ (i 0).val := (H 0).1
    have h2 : (i 0).val < t.val + 1 := (H 0).2
    omega
  · intro H a
    have hi := (i a).isLt
    match a with
    | 0 => exact ⟨by show t.val ≤ (i 0).val; omega, by show (i 0).val < t.val + 1; omega⟩
    | 1 => exact ⟨Nat.zero_le _, by show (i 1).val < 0 + 256; exact Nat.lt_of_lt_of_eq hi rfl⟩
    | 2 => exact ⟨Nat.zero_le _, by show (i 2).val < 0 + 768; exact Nat.lt_of_lt_of_eq hi rfl⟩
theorem R3_disjoint (t t' : Fin 3) (hn : t ≠ t') : Disjoint (R3 t).set (R3 t').set := by
  rw [Finset.disjoint_left]
  intro i h1 h2
  exact hn (Fin.ext (((R3_mem t i).mp h1).symm.trans ((R3_mem t' i).mp h2)))
theorem R3_cover (i : S3x256x768.Idx) : ∃ t, i ∈ (R3 t).set := ⟨⟨(i 0).val, (i 0).isLt⟩, (R3_mem _ i).mpr rfl⟩

/-- An index of one device's rows. -/
def rowIx (i : S4x256x768.Idx) : S1x256x768.Idx := fun | 0 => ⟨0, Nat.one_pos⟩ | 1 => i 1 | 2 => i 2
/-- Rows by device, as one array. -/
def rowsJoin {e : EltTy} (v : D4 → Vec F S1x256x768 e) : Vec F S4x256x768 e := fun i => v ⟨(i 0).val, (i 0).isLt⟩ (rowIx i)
/-- What device `c`'s output holds at the end: the rows of every device. -/
def outF (c : D4) : Vec F S4x256x768 .f32 := rowsJoin (outv pv c)

theorem rows_read (v : D4 → Vec F S1x256x768 .f32) (t : D4) : v t = (outM.access (R4 t)).read (Elt F) (rowsJoin v) := by
  funext j
  have hj : (j 0).val = 0 := by have : (j 0).val < 1 := (j 0).isLt; omega
  have e0 : ((R4 t).emb j 0).val = t.val := by show t.val + 1 * (j 0).val = _; omega
  have e1 : ((R4 t).emb j 1).val = (j 1).val := by show 0 + 1 * (j 1).val = _; omega
  have e2 : ((R4 t).emb j 2).val = (j 2).val := by show 0 + 1 * (j 2).val = _; omega
  show v t j = rowsJoin v ((R4 t).emb j)
  unfold rowsJoin
  have a1 : (⟨((R4 t).emb j 0).val, ((R4 t).emb j 0).isLt⟩ : D4) = t := Fin.ext e0
  rw [a1]
  congr 1
  funext a
  match a with
  | 0 => exact Fin.ext hj
  | 1 => exact Fin.ext e1.symm
  | 2 => exact Fin.ext e2.symm

/-! ## Families over the cells -/

theorem zip2 {ι M : Type} [Fintype ι] [URA M] {Φ Ψ : ι → sProp M} :
    iprop(bigSep Finset.univ Φ ∗ bigSep Finset.univ Ψ) ⊢ bigSep Finset.univ fun i => iprop(Φ i ∗ Ψ i) :=
  Entails.of_eq (bigSep_sep _ _ _).symm

theorem bigSep_oth {M : Type} [URA M] (c : D4) (Φ : D4 → sProp M) :
    bigSep Finset.univ Φ = iprop(Φ c ∗ bigSep Finset.univ fun k : Fin 3 => Φ (oth c k)) := by
  rw [bigSep_three, bigSep_all c]

theorem own13 (c : D4) (Φ : GSem nD τ sig → sProp 𝕄) :
    (bigSep Finset.univ fun i : Fin 13 => Φ (ownCell c i))
      = iprop((bigSep Finset.univ fun ch : D4 => Φ (sndCell c ch)) ∗ (bigSep Finset.univ fun s : Fin 3 => Φ (rcvCell c s))
        ∗ (bigSep Finset.univ fun s : Fin 3 => Φ (agsCell c s)) ∗ bigSep Finset.univ fun s : Fin 3 => Φ (agrCell c s)) := by
  have e : (bigSep Finset.univ fun i : Fin 13 => Φ (ownCell c i))
      = bigSepL ([0, 1, 2, 3, 4, 5, 6, 7, 8, 9, 10, 11, 12] : List (Fin 13)) fun i => Φ (ownCell c i) :=
    bigSep_univ_eq_bigSepL _ (by decide) (by decide) _
  rw [e, bigSep_four, bigSep_three, bigSep_three, bigSep_three]
  show iprop(Φ (sndCell c 0) ∗ Φ (sndCell c 1) ∗ Φ (sndCell c 2) ∗ Φ (sndCell c 3) ∗ Φ (rcvCell c 0) ∗ Φ (rcvCell c 1) ∗ Φ (rcvCell c 2)
    ∗ Φ (agsCell c 0) ∗ Φ (agsCell c 1) ∗ Φ (agsCell c 2) ∗ Φ (agrCell c 0) ∗ Φ (agrCell c 1) ∗ Φ (agrCell c 2)) = _
  refine BI.equiv_iff.mp ⟨?_, ?_⟩
  · show iprop(Φ (sndCell c 0) ∗ Φ (sndCell c 1) ∗ Φ (sndCell c 2) ∗ Φ (sndCell c 3) ∗ Φ (rcvCell c 0) ∗ Φ (rcvCell c 1) ∗ Φ (rcvCell c 2)
      ∗ Φ (agsCell c 0) ∗ Φ (agsCell c 1) ∗ Φ (agsCell c 2) ∗ Φ (agrCell c 0) ∗ Φ (agrCell c 1) ∗ Φ (agrCell c 2)) ⊢ _
    iintro ⟨A0, A1, A2, A3, B0, B1, B2, C0, C1, C2, D0, D1, D2⟩
    isplitl [A0 A1 A2 A3]
    · isplitl [A0]; · iexact A0
      isplitl [A1]; · iexact A1
      isplitl [A2] <;> iassumption
    isplitl [B0 B1 B2]
    · isplitl [B0]; · iexact B0
      isplitl [B1] <;> iassumption
    isplitl [C0 C1 C2]
    · isplitl [C0]; · iexact C0
      isplitl [C1] <;> iassumption
    · isplitl [D0]; · iexact D0
      isplitl [D1] <;> iassumption
  · show iprop((Φ (sndCell c 0) ∗ Φ (sndCell c 1) ∗ Φ (sndCell c 2) ∗ Φ (sndCell c 3)) ∗ (Φ (rcvCell c 0) ∗ Φ (rcvCell c 1) ∗ Φ (rcvCell c 2))
      ∗ (Φ (agsCell c 0) ∗ Φ (agsCell c 1) ∗ Φ (agsCell c 2)) ∗ Φ (agrCell c 0) ∗ Φ (agrCell c 1) ∗ Φ (agrCell c 2)) ⊢ _
    iintro ⟨⟨A0, A1, A2, A3⟩, ⟨B0, B1, B2⟩, ⟨C0, C1, C2⟩, D0, D1, D2⟩
    isplitl [A0]; · iexact A0
    isplitl [A1]; · iexact A1
    isplitl [A2]; · iexact A2
    isplitl [A3]; · iexact A3
    isplitl [B0]; · iexact B0
    isplitl [B1]; · iexact B1
    isplitl [B2]; · iexact B2
    isplitl [C0]; · iexact C0
    isplitl [C1]; · iexact C1
    isplitl [C2]; · iexact C2
    isplitl [D0]; · iexact D0
    isplitl [D1] <;> iassumption

/-! ## A device's ghost state -/

/-- The tokens of the duties device `c` pays. -/
def toks (c : D4) : sProp 𝕄 :=
  iprop((bigSep Finset.univ fun k : Fin 3 => dutyTok ER (barCell (src c k)) 0 c)
    ∗ (bigSep Finset.univ fun k : Fin 3 => dutyTok ER (rcvCell (oth c k) (slot c (oth c k))) 0 0)
    ∗ (bigSep Finset.univ fun k : Fin 3 => dutyTok ER (sndCell c (oth c k)) 0 0)
    ∗ (bigSep Finset.univ fun k : Fin 3 => dutyTok ER (agrCell (src c k) (slot c (src c k))) 0 0)
    ∗ bigSep Finset.univ fun k : Fin 3 => dutyTok ER (agsCell c k) 0 0)
/-- The credit launched to it. -/
def creds (c : D4) : sProp 𝕄 :=
  iprop(cred (tallyAt (barCell c) () 3) ∗ (bigSep Finset.univ fun s : Fin 3 => cred (tallyAt (rcvCell c s) () N))
    ∗ bigSep Finset.univ fun s : Fin 3 => cred (tallyAt (agrCell c s) () N))
/-- Its positions once its own cells are open. -/
def opened (c : D4) : sProp 𝕄 :=
  iprop(atPos ER (barCell c) 0 ∅ 0
    ∗ (bigSep Finset.univ fun i : Fin 13 => iprop(atPos ER (ownCell c i) 0 ∅ 0 ∗ reached ER (ownCell c i) 0)) ∗ toks c)
/-- Before: the positions and the rights to open its own cells. -/
def dormant (c : D4) : sProp 𝕄 :=
  iprop(atPos ER (barCell c) 0 ∅ 0 ∗ (bigSep Finset.univ fun i : Fin 13 => openTok ER (ownCell c i)) ∗ toks c)

theorem own_inv (c : D4) : Rec pv K
    ⊢ bigSep Finset.univ fun i : Fin 13 => cellInv ER (talkRd pv) (K (ownCell c i)) (ownCell c i) :=
  bigSep_intro_persistent fun i _ => Rec_own pv K c i _ rfl

theorem ownSems_eq (c : D4) :
    (Pipeline.ownSems0 osem c : sProp 𝕄) = bigSep Finset.univ fun i : Fin 13 => semVal (ownCell c i) 0 := rfl

/-- Opening the device's thirteen cells. -/
theorem open_own (c : D4) :
    iprop(Rec pv K ∗ dormant c ∗ Pipeline.ownSems0 osem c) ⊢ (|={Set.univ}=> opened c : sProp 𝕄) := by
  unfold dormant opened
  rw [ownSems_eq]
  iintro ⟨#HR, ⟨Hat, Ho, Ht⟩, Hs⟩
  ihave HI := (own_inv pv K c) $$ HR
  imod (Rounds.cells_open ER (talkRd pv) Finset.univ (ownCell c) (fun i => K (ownCell c i)) (fun _ _ => Set.mem_univ _)) $$ [HI Ho Hs] with HA
  · isplitr [Hs]
    · iapply zip2
      isplitl [HI] <;> iassumption
    · iexact Hs
  imodintro
  isplitl [Hat]; · iexact Hat
  isplitl [HA] <;> iassumption

/-- The scratch buffers, at any contents. -/
def scratch (c : D4) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- What the body leaves aside: the chunk a device would send itself, and that chunk's cell. -/
def aside (c : D4) : sProp 𝕄 := iprop((∃ v : Vec F S1x256x768 .bf16, sndH c c v) ∗ atPos ER (sndCell c c) 0 ∅ 0)

theorem barPay_slot (c : D4) (k : Fin 3) :
    iprop((∃ v : Vec F S1x256x768 .bf16, rcvH c k v) ∗ (∃ v : Vec F S1x256x768 .bf16, agrH c k v)
      ∗ reached ER (rcvCell c k) 0 ∗ reached ER (agrCell c k) 0) ⊢ barPay (F := F) (src c k) c := by
  unfold barPay
  rw [slot_src]

theorem bar_items (c : D4) :
    iprop((bigSep Finset.univ fun k : Fin 3 => iprop(∃ v : Vec F S1x256x768 .bf16, rcvH c k v))
      ∗ (bigSep Finset.univ fun k : Fin 3 => iprop(∃ v : Vec F S1x256x768 .bf16, agrH c k v))
      ∗ (bigSep Finset.univ fun k : Fin 3 => reached ER (rcvCell c k) 0) ∗ bigSep Finset.univ fun k : Fin 3 => reached ER (agrCell c k) 0)
    ⊢ bigSep Finset.univ fun k : Fin 3 => barPay (F := F) (src c k) c := by
  refine (?_ : _ ⊢ bigSep Finset.univ fun k : Fin 3 => iprop((∃ v : Vec F S1x256x768 .bf16, rcvH c k v) ∗ (∃ v : Vec F S1x256x768 .bf16, agrH c k v)
      ∗ reached ER (rcvCell c k) 0 ∗ reached ER (agrCell c k) 0)).trans (bigSep_mono fun k _ => barPay_slot c k)
  iintro ⟨A, B, C, D⟩
  iapply zip2; isplitl [A]; · iexact A
  iapply zip2; isplitl [B]; · iexact B
  iapply zip2; isplitl [C] <;> iassumption

theorem rsTok_items (c : D4) :
    iprop((bigSep Finset.univ fun k : Fin 3 => iprop(∃ v : Vec F S1x256x768 .bf16, sndH c (oth c k) v))
      ∗ (bigSep Finset.univ fun k : Fin 3 => dutyTok ER (sndCell c (oth c k)) 0 0)
      ∗ (bigSep Finset.univ fun k : Fin 3 => reached ER (sndCell c (oth c k)) 0)
      ∗ bigSep Finset.univ fun k : Fin 3 => dutyTok ER (rcvCell (oth c k) (slot c (oth c k))) 0 0)
    ⊢ bigSep Finset.univ fun k : Fin 3 => rsTok (F := F) c k := by
  unfold rsTok
  iintro ⟨A, B, C, D⟩
  iapply zip2; isplitl [A]; · iexact A
  iapply zip2; isplitl [B]; · iexact B
  iapply zip2; isplitl [C] <;> iassumption

theorem agTok_items (c : D4) :
    iprop((bigSep Finset.univ fun k : Fin 3 => dutyTok ER (agsCell c k) 0 0)
      ∗ (bigSep Finset.univ fun k : Fin 3 => reached ER (agsCell c k) 0)
      ∗ bigSep Finset.univ fun k : Fin 3 => dutyTok ER (agrCell (src c k) (slot c (src c k))) 0 0)
    ⊢ bigSep Finset.univ fun k : Fin 3 => agTok (F := F) c k := by
  unfold agTok
  iintro ⟨A, B, C⟩
  iapply zip2; isplitl [A]; · iexact A
  iapply zip2; isplitl [B] <;> iassumption

/-- The body's premise from the opened cells, the credit, the blocks, the scratch buffers and the output's buffer. -/
theorem enter (c : D4) (I : Ins F) :
    iprop(opened c ∗ creds c ∗ inp c I ∗ scratch (F := F) c
        ∗ (∃ f : Buf (Elt F) ((c : Thread nD τ).loc cc0_stg5_0), ((c : Thread nD τ).loc cc0_stg5_0) ↦{fullShare} f)
        ∗ ∃ W, owes (c : Thread nD τ) (O₀ c) W)
      ⊢ (iprop(bodyIn c I ∗ aside (F := F) c) : sProp 𝕄) := by
  unfold opened creds scratch toks
  rw [bigSep_sep', own13 c fun g => atPos ER g 0 ∅ 0, own13 c fun g => reached ER g 0,
    bigSep_oth c fun ch => atPos ER (sndCell c ch) 0 ∅ 0, bigSep_oth c fun ch => reached ER (sndCell c ch) 0]
  iintro ⟨⟨Hbar, ⟨⟨⟨Pc, Ps⟩, Pr, Pa, Pg⟩, ⟨⟨-, Rs⟩, Rr, Ra, Rg⟩⟩, Tb, Tr, Ts, Tg, Ta⟩, ⟨Cb, Cr, Cg⟩, Hi, ⟨⟨%f0, S0⟩, ⟨%f1, S1⟩, ⟨%f2, S2⟩, ⟨%f3, S3⟩, ⟨%f4, S4⟩⟩, ⟨%fo, So⟩, HO⟩
  ihave S0 := (held_split_any (c : Thread nD τ) cc0_scratch0 RC fullShare RC_disjoint RC_cover f0) $$ S0
  ihave S1 := (held_split_any (c : Thread nD τ) cc0_scratch1 R4 fullShare R4_disjoint R4_cover f1) $$ S1
  ihave S2 := (held_split_any (c : Thread nD τ) cc0_scratch2 R3 fullShare R3_disjoint R3_cover f2) $$ S2
  ihave S4 := (held_split_any (c : Thread nD τ) cc0_scratch4 R3 fullShare R3_disjoint R3_cover f4) $$ S4
  ihave So := (held_split_any (c : Thread nD τ) cc0_stg5_0 R4 fullShare R4_disjoint R4_cover fo) $$ So
  ihave S1 := (show (bigSep Finset.univ fun t : D4 => iprop(∃ x, held (c : Thread nD τ) ((Memref.whole cc0_scratch1).access (R4 t)) fullShare x))
      ⊢ (iprop((∃ v : Vec F S1x256x768 .bf16, sndH c c v) ∗ bigSep Finset.univ fun k : Fin 3 => iprop(∃ v : Vec F S1x256x768 .bf16, sndH c (oth c k) v)) : sProp 𝕄)
      from Entails.of_eq (bigSep_oth c fun ch => iprop(∃ v : Vec F S1x256x768 .bf16, sndH c ch v))) $$ S1
  icases S1 with ⟨S1c, S1⟩
  unfold bodyIn aside
  isplitr [S1c Pc]
  · isplitl [Hi]; · iexact Hi
    isplitl [S0]; · iexact S0
    isplitl [So]; · iexact So
    isplitl [Hbar Cb Tb S2 S4 Rr Rg HO]
    · unfold barIn
      isplitl [Hbar]; · iexact Hbar
      isplitl [Cb]; · iexact Cb
      isplitl [Tb S2 S4 Rr Rg]
      · iapply zip2; isplitl [Tb]; · iexact Tb
        iapply (bar_items c)
        isplitl [S2]; · iexact S2
        isplitl [S4]; · iexact S4
        isplitl [Rr] <;> iassumption
      · iexact HO
    · unfold tailIn
      isplitl [Cr Pr]
      · iapply zip2; isplitl [Cr] <;> iassumption
      isplitl [Cg Pg]
      · iapply zip2; isplitl [Cg] <;> iassumption
      isplitl [Ps]; · iexact Ps
      isplitl [Pa]; · iexact Pa
      isplitl [S1 Ts Rs Tr]
      · iapply (rsTok_items c)
        isplitl [S1]; · iexact S1
        isplitl [Ts]; · iexact Ts
        isplitl [Rs] <;> iassumption
      isplitl [Ta Ra Tg]
      · iapply (agTok_items c)
        isplitl [Ta]; · iexact Ta
        isplitl [Ra] <;> iassumption
      iexists f3; iexact S3
  · isplitl [S1c] <;> iassumption

/-! ## Leaving -/

/-- The round each of a device's cells ends at. -/
def lastRound (c : D4) (i : Fin 13) : ℕ := if i.val = c.val then 0 else 1

theorem duties_end (c : D4) (i : Fin 13) : ∀ r, lastRound c i ≤ r → (talkRd pv).duties (ownCell c i) r = ∅ := by
  intro r hr
  by_cases h : i.val = c.val
  · have e : ownCell c i = sndCell c c := by
      rw [← own_snd c c]; exact congrArg (ownCell c) (Fin.ext h)
    rw [e]; exact duties_idle pv c r (Nat.zero_le _)
  · refine duties_later pv _ r ?_
    unfold lastRound at hr
    rwa [if_neg h] at hr

theorem ne_snd (c : D4) (k : Fin 3) : sndCell c (oth c k) ≠ sndCell c c := by revert c k; decide
theorem ne_rcv (c : D4) (s : Fin 3) : rcvCell c s ≠ sndCell c c := by revert c s; decide
theorem ne_ags (c : D4) (s : Fin 3) : agsCell c s ≠ sndCell c c := by revert c s; decide
theorem ne_agr (c : D4) (s : Fin 3) : agrCell c s ≠ sndCell c c := by revert c s; decide

theorem ends (c : D4) :
    iprop((atPos ER (sndCell c c) 0 ∅ 0 ∗ bigSep Finset.univ fun k : Fin 3 => atPos ER (sndCell c (oth c k)) 1 ∅ 0)
      ∗ (bigSep Finset.univ fun s : Fin 3 => atPos ER (rcvCell c s) 1 ∅ 0)
      ∗ (bigSep Finset.univ fun s : Fin 3 => atPos ER (agsCell c s) 1 ∅ 0) ∗ bigSep Finset.univ fun s : Fin 3 => atPos ER (agrCell c s) 1 ∅ 0)
    ⊢ (bigSep Finset.univ fun i : Fin 13 => atPos ER (ownCell c i) (lastRound c i) ∅ 0 : sProp 𝕄) := by
  have e : (fun i : Fin 13 => (atPos ER (ownCell c i) (lastRound c i) ∅ 0 : sProp 𝕄))
      = fun i => (fun g : GSem nD τ sig => atPos ER g (if g = sndCell c c then 0 else 1) ∅ 0) (ownCell c i) := by
    funext i
    have : lastRound c i = if ownCell c i = sndCell c c then 0 else 1 := by
      unfold lastRound
      by_cases h : i.val = c.val
      · rw [if_pos h, if_pos]; rw [← own_snd c c]; exact congrArg (ownCell c) (Fin.ext h)
      · rw [if_neg h, if_neg]
        intro e
        have := congrArg (fun g : GSem nD τ sig => g.2) e
        injection this with this
        have := congrArg Fin.val this
        exact h (by simpa using this)
    rw [this]
  rw [e, own13 c fun g => (atPos ER g (if g = sndCell c c then 0 else 1) ∅ 0 : sProp 𝕄), bigSep_oth c]
  simp only [if_neg (ne_snd c _), if_neg (ne_rcv c _), if_neg (ne_ags c _), if_neg (ne_agr c _), if_true]
  exact .rfl

theorem close_own (c : D4) :
    iprop(Rec pv K ∗ atPos ER (barCell c) 1 ∅ 0 ∗ bigSep Finset.univ fun i : Fin 13 => atPos ER (ownCell c i) (lastRound c i) ∅ 0)
      ⊢ (|={Set.univ}=> iprop(semVal (barCell c) 0 ∗ Pipeline.ownSems0 osem c) : sProp 𝕄) := by
  rw [ownSems_eq]
  iintro ⟨#HR, Hb, Ho⟩
  ihave #HB := (Rec_bar pv K c) $$ HR
  ihave HI := (own_inv pv K c) $$ HR
  imod (Rounds.cell_close ER (talkRd pv) (g := barCell c) (Set.mem_univ (K (barCell c))) id (duties_later pv (barCell c))) $$ [Hb] with Hb
  · isplitr; · iexact HB
    iexact Hb
  imod (Rounds.cells_close ER (talkRd pv) Finset.univ (ownCell c) (fun i => K (ownCell c i)) (fun _ _ => Set.mem_univ _) (fun _ _ => id)
    (lastRound c) (fun i _ => duties_end pv c i)) $$ [HI Ho] with Hs
  · iapply zip2
    isplitl [HI] <;> iassumption
  imodintro
  isplitl [Hb]; · iexact Hb
  iexact Hs

theorem leave (c : D4) (h : Fin 8 → Vec F S512x64 .f32) :
    iprop(Rec pv K ∗ aside (F := F) c ∗ (bigSep Finset.univ fun t : Fin 8 => ctxH c t (h t)) ∗ atPos ER (barCell c) 1 ∅ 0 ∗ agPost pv c)
      ⊢ (|={Set.univ}=> iprop((semVal (barCell c) 0 ∗ Pipeline.ownSems0 osem c) ∗ scratch (F := F) c
          ∗ (((c : Thread nD τ).loc cc0_stg5_0) ↦{fullShare} outF pv c)
          ∗ ∃ W, owes (c : Thread nD τ) (0 : CellTallies nD τ sig Unit) W) : sProp 𝕄) := by
  unfold agPost aside
  rw [bigSep_sep', bigSep_sep', bigSep_sep']
  unfold sndPay
  iintro ⟨#HR, ⟨Sc, Pc⟩, HC, Pb, HO, ⟨Pr, Vr⟩, ⟨Pg, Vg⟩, ⟨Ps, Vs⟩, Pa, ⟨%va, Va⟩, Oc, Os⟩
  imod (close_own pv K c) $$ [Pb Pc Pr Pg Ps Pa] with Hz
  · isplitr; · iexact HR
    isplitl [Pb]; · iexact Pb
    iapply (ends c)
    isplitl [Pc Ps]
    · isplitl [Pc] <;> iassumption
    isplitl [Pr]; · iexact Pr
    isplitl [Pa] <;> iassumption
  imodintro
  isplitl [Hz]; · iexact Hz
  isplitl [HC Sc Vs Vr Vg Va]
  · unfold scratch
    isplitl [HC]; · iexists _; iapply (ctx_join c h) $$ HC
    isplitl [Sc Vs]
    · iapply (held_join_any (c : Thread nD τ) cc0_scratch1 R4 fullShare R4_disjoint R4_cover)
      iapply (Entails.of_eq (bigSep_oth c fun ch => iprop(∃ v : Vec F S1x256x768 .bf16, sndH c ch v)).symm)
      isplitl [Sc] <;> iassumption
    isplitl [Vr]
    · iapply (held_join_any (c : Thread nD τ) cc0_scratch2 R3 fullShare R3_disjoint R3_cover); iexact Vr
    isplitl [Va]; · iexists va; iexact Va
    · iapply (held_join_any (c : Thread nD τ) cc0_scratch4 R3 fullShare R3_disjoint R3_cover); iexact Vg
  isplitl [Oc Os]
  · iapply (held_join (c : Thread nD τ) cc0_stg5_0 R4 fullShare R4_disjoint R4_cover (outF pv c) (outv pv c) (rows_read (outv pv c)))
    iapply (Entails.of_eq (bigSep_own c fun ch => outH c ch (outv pv c ch)).symm)
    unfold outv
    rw [if_pos rfl]
    simp only [if_neg (src_ne c _)]
    isplitl [Oc] <;> iassumption
  · iexact HO

end Cert.KernelIdeal.Talk

end
-- ==== Proof.KernelIdealRegion.lean ====
module

public import proofs.«01_k».proof.Proof.KernelIdealState
public import proofs.«01_k».proof.Proof.Gen.KernelIdeal.Regions
public import proofs.«01_k».proof.Proof.Gen.KernelIdeal.Points
public import Idealize.ShloMosaic.Lib.Pipeline.ValueKit

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable (m : (ℓ : Loc nD τ sig) → Buf (Elt F) ℓ)

/-! # The kernel's region

  One point, all six windows whole: the blocks the body reads are the arrays as the host's operations leave them. -/

/-- The blocks device `c`'s body reads. -/
def insOf (c : D4) : Ins F where
  x := V1 m c main_arg0
  g := V1 m c main_arg1
  k := V1 m c main_v16
  v := V1 m c main_v18
  o := V1 m c main_arg4
/-- The partial rows each device computes for each device. -/
def pvOf : D4 → D4 → Vec F S1x256x768 .f32 := fun c ch => partOut (insOf m c) ch
/-- What the region leaves. -/
def outs : Outs (F := F) := fun _ r c => if h : r = main_v19 then h ▸ (outF (pvOf m) c : Buf (Elt F) ((c : Thread nD τ).loc main_v19)) else m ((c : Thread nD τ).loc r)
theorem outs_v19 (c : D4) : outs m 2 main_v19 c = outF (pvOf m) c := by unfold outs; rw [dif_pos rfl]

/-- What the program's launch keeps for the region, -/
def Tk (c : D4) : sProp 𝕄 := iprop((∃ K, Rec (pvOf m) K ∗ dormant c) ∗ creds c)
/-- what enters its invariant, -/
def Xk (c : D4) : sProp 𝕄 := iprop((∃ K, Rec (pvOf m) K ∗ opened c) ∗ creds c ∗ levAts L lv)
/-- and what it leaves. -/
def Yk (c : D4) : sProp 𝕄 := semVal (barCell c) 0

theorem hopen (c : D4) : iprop(Tk m c ∗ Pipeline.ownSems0 osem c ∗ levAts L lv) ⊢ (|={Set.univ}=> Xk m c : sProp 𝕄) := by
  unfold Tk Xk
  iintro ⟨⟨⟨%K, #HR, Hd⟩, Hc⟩, Hs, #HL⟩
  imod (open_own (pvOf m) K c) $$ [Hd Hs] with Ho
  · isplitr; · iexact HR
    isplitl [Hd] <;> iassumption
  imodintro
  isplitl [Ho]
  · iexists K; isplitr; · iexact HR
    iexact Ho
  isplitl [Hc]; · iexact Hc
  iexact HL

/-! ## The proof data -/

/-- The invariant before the one point and after it. -/
def Inv (c : D4) (n : ℕ) : sProp 𝕄 :=
  if n = 0 then iprop(Xk m c ∗ scratch (F := F) c ∗ ∃ r, prngReg c r)
  else iprop((Yk (F := F) c ∗ Pipeline.ownSems0 osem c) ∗ scratch (F := F) c ∗ ∃ r, prngReg c r)

/-- The region's proof data. -/
def dat0 (c : D4) : Dat τ (Elt F) Unit ℕ UU ℕ cfg0 c where
  A := fun
    | 0 => V1 m c main_arg0 | 1 => V1 m c main_arg1 | 2 => V1 m c main_v16 | 3 => V1 m c main_v18 | 4 => V1 m c main_arg4
    | 5 => V1 m c main_v19 | ⟨_ + 6, h⟩ => absurd h (Nat.not_lt.2 (Nat.le_add_left _ _))
  after := fun
    | 0 => fun _ => (insOf m c).x | 1 => fun _ => (insOf m c).g | 2 => fun _ => (insOf m c).k | 3 => fun _ => (insOf m c).v
    | 4 => fun _ => (insOf m c).o | 5 => fun _ => outF (pvOf m) c | ⟨_ + 6, h⟩ => absurd h (Nat.not_lt.2 (Nat.le_add_left _ _))
  Φ := fun t => Inv m c t.val
  q := fun _ => fullShare
  owed := fun t => if t.val = 0 then O₀ c else 0

abbrev pdats : (p : Fin 1) → (c : Dev nD) → Dat τ (Elt F) Unit ℕ UU ℕ (cfgs p) c := fun _ c => dat0 m c

theorem owed_first (c : D4) : (dat0 m c).owed 0 = O₀ c := by
  show (if ((0 : Fin (cfg0.N + 1)).val = 0) then O₀ c else 0) = O₀ c; exact if_pos rfl
theorem owed_last (c : D4) : (dat0 m c).owed (Fin.last _) = 0 := by
  show (if (Fin.last grid0.N).val = 0 then O₀ c else 0) = 0
  rw [Fin.val_last, if_neg (by rw [N_0]; decide)]

theorem owed_start (c : D4) : (dat0 m c).owed t0_0.castSucc = O₀ c := by
  show (if (t0_0.castSucc : Fin (grid0.N + 1)).val = 0 then O₀ c else 0) = O₀ c; exact if_pos rfl
theorem owed_stop (c : D4) : (dat0 m c).owed t0_0.succ = 0 := by
  show (if (t0_0.succ : Fin (grid0.N + 1)).val = 0 then O₀ c else 0) = 0; exact if_neg (by decide)

theorem owesAt_make (c : D4) (t : Fin (cfg0.N + 1)) (O : CellTallies nD τ sig Unit) (h : (dat0 m c).owed t = O) (W : Waits sig Unit) :
    (owes (c : Thread nD τ) O W : sProp 𝕄) ⊢ ((dat0 m c).owesAt () t : sProp 𝕄) := by
  unfold Dat.owesAt Pipeline.owesWithin Dat.bound
  rw [h]
  iintro HO
  iexists W
  isplitr
  · ipureintro; exact fun _ _ => Or.inl trivial
  iexact HO
theorem owesAt_use (c : D4) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, HO⟩
  iexists W; iexact HO

theorem before_0 (c : D4) (d) : (dat0 m c).before 0 t0_0 d = (insOf m c).x := by
  rw [Dat.before_fetched _ _ _ (fetch0_0 t0_0)]
  funext y
  exact congrArg (insOf m c).x (funext fun a => Fin.ext (Pipeline.Window.rect_emb_val_of_index_zero win0_0 t0_0 a rfl y))
theorem before_1 (c : D4) (d) : (dat0 m c).before 1 t0_0 d = (insOf m c).g := by
  rw [Dat.before_fetched _ _ _ (fetch0_1 t0_0)]
  funext y
  exact congrArg (insOf m c).g (funext fun a => Fin.ext (Pipeline.Window.rect_emb_val_of_index_zero win0_1 t0_0 a rfl y))
theorem before_2 (c : D4) (d) : (dat0 m c).before 2 t0_0 d = (insOf m c).k := by
  rw [Dat.before_fetched _ _ _ (fetch0_2 t0_0)]
  funext y
  exact congrArg (insOf m c).k (funext fun a => Fin.ext (Pipeline.Window.rect_emb_val_of_index_zero win0_2 t0_0 a rfl y))
theorem before_3 (c : D4) (d) : (dat0 m c).before 3 t0_0 d = (insOf m c).v := by
  rw [Dat.before_fetched _ _ _ (fetch0_3 t0_0)]
  funext y
  exact congrArg (insOf m c).v (funext fun a => Fin.ext (Pipeline.Window.rect_emb_val_of_index_zero win0_3 t0_0 a rfl y))
theorem before_4 (c : D4) (d) : (dat0 m c).before 4 t0_0 d = (insOf m c).o := by
  rw [Dat.before_fetched _ _ _ (fetch0_4 t0_0)]
  funext y
  exact congrArg (insOf m c).o (funext fun a => Fin.ext (Pipeline.Window.rect_emb_val_of_index_zero win0_4 t0_0 a rfl y))
theorem before_5 (c : D4) (d) : (dat0 m c).before 5 t0_0 d = d :=
  Dat.before_out_reset _ _ rfl _ (.inl rfl) d

abbrev 𝒱₀ : Variants := Variants.none

/-- The staging buffers at the blocks: before the body. -/
theorem inp_of (c : D4) :
    iprop((((c : Thread nD τ).loc cc0_stg0_0) ↦{fullShare} (insOf m c).x) ∗ (((c : Thread nD τ).loc cc0_stg1_0) ↦{fullShare} (insOf m c).g)
      ∗ (((c : Thread nD τ).loc cc0_stg2_0) ↦{fullShare} (insOf m c).k) ∗ (((c : Thread nD τ).loc cc0_stg3_0) ↦{fullShare} (insOf m c).v)
      ∗ (((c : Thread nD τ).loc cc0_stg4_0) ↦{fullShare} (insOf m c).o)) = (inp c (insOf m c) : sProp 𝕄) := rfl

/-- The body's run on its blocks: the invariant, and the staging buffers before and after. -/
theorem body_run (c : D4) {Q : PUnit → sProp 𝕄} :
    iprop(Xk m c ∗ scratch (F := F) c ∗ inp c (insOf m c)
        ∗ (∃ f : Buf (Elt F) ((c : Thread nD τ).loc cc0_stg5_0), ((c : Thread nD τ).loc cc0_stg5_0) ↦{fullShare} f)
        ∗ ∃ W, owes (c : Thread nD τ) (O₀ c) W)
      ⊢ iprop((((Yk (F := F) c ∗ Pipeline.ownSems0 osem c) ∗ scratch (F := F) c ∗ inp c (insOf m c)
          ∗ (((c : Thread nD τ).loc cc0_stg5_0) ↦{fullShare} outF (pvOf m) c)
          ∗ ∃ W, owes (c : Thread nD τ) (0 : CellTallies nD τ sig Unit) W) -∗ |={Set.univ}=> Q ⟨⟩)
        -∗ WP (defs := defs₀) 𝒱₀ none c (onBufs (cc0_body (F := F))) Q) := by
  unfold Xk Yk
  iintro ⟨⟨⟨%K, #HR, Ho⟩, Hc, #HL⟩, Hs, Hi, Ho5, HO⟩ Hk
  ihave Hb := (enter c (insOf m c)) $$ [Ho Hc Hi Hs Ho5 HO]
  · isplitl [Ho]; · iexact Ho
    isplitl [Hc]; · iexact Hc
    isplitl [Hi]; · iexact Hi
    isplitl [Hs]; · iexact Hs
    isplitl [Ho5] <;> iassumption
  icases Hb with ⟨Hb, Ha⟩
  unfold WP
  iapply wp_fupd
  iapply (wp_body (pvOf m) K 𝒱₀ none c (fun ch => rfl)) $$ [Hb]
  · isplitr; · iexact HR
    isplitr; · iexact HL
    iexact Hb
  iintro ⟨Hi, HC, Hbar, Hp⟩
  imod (leave (pvOf m) K c (hv1 (insOf m c))) $$ [Ha HC Hbar Hp] with ⟨Hz, Hs, Ho, HO⟩
  · isplitr; · iexact HR
    isplitl [Ha]; · iexact Ha
    isplitl [HC]; · iexact HC
    isplitl [Hbar] <;> iassumption
  iapply Hk
  isplitl [Hz]; · iexact Hz
  isplitl [Hs]; · iexact Hs
  isplitl [Hi]; · iexact Hi
  isplitl [Ho] <;> iassumption

theorem Inv_first (c : D4) : (dat0 m c).Φ t0_0.castSucc = iprop(Xk m c ∗ scratch (F := F) c ∗ ∃ r, prngReg c r) := rfl
theorem Inv_last (c : D4) : (dat0 m c).Φ t0_0.succ
    = iprop((Yk (F := F) c ∗ Pipeline.ownSems0 osem c) ∗ scratch (F := F) c ∗ ∃ r, prngReg c r) := rfl

/-- What the pipeline hands the body, -/
def bodyPre (c : D4) : sProp 𝕄 :=
  iprop((Xk m c ∗ scratch (F := F) c ∗ ∃ r, prngReg c r) ∗ (dat0 m c).owesAt () t0_0.castSucc
      ∗ (∃ d, owns c (Memref.whole cc0_stg0_0) fullShare ((dat0 m c).before 0 t0_0 d))
      ∗ (∃ d, owns c (Memref.whole cc0_stg1_0) fullShare ((dat0 m c).before 1 t0_0 d))
      ∗ (∃ d, owns c (Memref.whole cc0_stg2_0) fullShare ((dat0 m c).before 2 t0_0 d))
      ∗ (∃ d, owns c (Memref.whole cc0_stg3_0) fullShare ((dat0 m c).before 3 t0_0 d))
      ∗ (∃ d, owns c (Memref.whole cc0_stg4_0) fullShare ((dat0 m c).before 4 t0_0 d))
      ∗ (∃ d, owns c (Memref.whole cc0_stg5_0) fullShare ((dat0 m c).before 5 t0_0 d)))
/-- and what the body hands back. -/
def bodyPost (c : D4) : sProp 𝕄 :=
  iprop(((Yk (F := F) c ∗ Pipeline.ownSems0 osem c) ∗ scratch (F := F) c ∗ ∃ r, prngReg c r) ∗ (dat0 m c).owesAt () t0_0.succ
      ∗ owns c (Memref.whole cc0_stg0_0) fullShare (insOf m c).x
      ∗ owns c (Memref.whole cc0_stg1_0) fullShare (insOf m c).g
      ∗ owns c (Memref.whole cc0_stg2_0) fullShare (insOf m c).k
      ∗ owns c (Memref.whole cc0_stg3_0) fullShare (insOf m c).v
      ∗ owns c (Memref.whole cc0_stg4_0) fullShare (insOf m c).o
      ∗ owns c (Memref.whole cc0_stg5_0) fullShare (outF (pvOf m) c))

theorem body_prog : (defs₀ (F := F)) .tc cfg0.body (cfg0.bodyArgs t0_0 (cfg0.slots t0_0)) = onBufs (cc0_body (F := F)) := rfl

theorem body0 (c : D4) : BodyObligation (dat0 m c) defs₀ 𝒱₀ () Set.univ := fun t => by
  rw [fin_N0 t, bigSep_W0, bigSep_W0, Inv_first, Inv_last]
  rw [body_prog]
  show bodyPre m c ⊢ wp frame (wpE defs₀ 𝒱₀ c none) Set.univ (onBufs (cc0_body (F := F))) fun _ => bodyPost m c
  unfold bodyPre bodyPost
  simp only [before_0, before_1, before_2, before_3, before_4, before_5, owns_whole]
  iintro ⟨⟨HX, Hs, Hp⟩, HO, ⟨%d0, H0⟩, ⟨%d1, H1⟩, ⟨%d2, H2⟩, ⟨%d3, H3⟩, ⟨%d4, H4⟩, ⟨%d5, H5⟩⟩
  ihave HO := (owesAt_use m c t0_0.castSucc (O₀ c) (owed_start m c)) $$ HO
  iapply (body_run m c) $$ [HX Hs HO H0 H1 H2 H3 H4 H5]
  · isplitl [HX]; · iexact HX
    isplitl [Hs]; · iexact Hs
    isplitl [H0 H1 H2 H3 H4]
    · iapply (Entails.of_eq (inp_of m c))
      isplitl [H0]; · iexact H0
      isplitl [H1]; · iexact H1
      isplitl [H2]; · iexact H2
      isplitl [H3] <;> iassumption
    isplitl [H5]; · iexists d5; iexact H5
    iexact HO
  iintro ⟨Hz, Hs, Hi, H5, ⟨%W, HO⟩⟩
  ihave Hi := (Entails.of_eq (inp_of m c).symm) $$ Hi
  icases Hi with ⟨H0, H1, H2, H3, H4⟩
  imodintro
  isplitl [Hz Hs Hp]
  · isplitl [Hz]; · iexact Hz
    isplitl [Hs] <;> iassumption
  isplitl [HO]; · iapply (owesAt_make m c t0_0.succ 0 (owed_stop m c) W); iexact HO
  isplitl [H0]; · iexact H0
  isplitl [H1]; · iexact H1
  isplitl [H2]; · iexact H2
  isplitl [H3]; · iexact H3
  isplitl [H4]; · iexact H4
  iexact H5

/-! ## The region's record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O₀ (c : D4) : Above 0 (O₀ c) :=
  above_add (above_add (above_add ((above_OR c).mono (by decide)) _ _ _ (by rw [lv_bar]; decide)) _ _ _ (by rw [lv_bar]; decide)) _ _ _
    (by rw [lv_bar]; decide)

theorem cutD (c : D4) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · exact above_O₀ c g i h
  · exact absurd h (Nat.lt_irrefl 0)

theorem scoped_eq (c : D4) :
    (Pipeline.scopedRest (Ix := Unit) (Name := ℕ) (U := UU) (Lvl := ℕ) (Val := Elt F) (Pipeline.pin (pcfgs (F := F)) adm 0).spec c : sProp 𝕄) = scratch c :=
  scopedRest0_eq c

theorem held_none (c : D4) (W : Valuation τ sig (Elt F)) : (StableHlo.held (c.tc : Thread nD τ) ∅ W : sProp 𝕄) = BI.emp := by
  unfold StableHlo.held
  exact BI.bigSep_empty

theorem hin (c : D4) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = iprop(Xk m c ∗ scratch (F := F) c ∗ ∃ r, prngReg c r) from rfl, scoped_eq]
  iintro ⟨Hs, Hp, -, HX⟩
  isplitl [HX]; · iexact HX
  isplitl [Hs] <;> iassumption

theorem hout (c : D4) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [show (pdats m 0 c).Φ (Fin.last (Pipeline.pin (pcfgs (F := F)) adm 0).N)
    = iprop((Yk (F := F) c ∗ Pipeline.ownSems0 osem c) ∗ scratch (F := F) c ∗ ∃ r, prngReg c r) from rfl, scoped_eq, held_none]
  iintro ⟨⟨HY, Hos⟩, Hs, Hp⟩
  isplitl [Hs]; · iexact Hs
  isplitl [Hp]; · iexact Hp
  isplitr; · iempintro
  isplitl [Hos] <;> iassumption

theorem V2_v19 (c : D4) : V2 m (outs m) c main_v19 = outF (pvOf m) c := by
  rw [← outs_v19]
  exact Function.update_self _ _ _

theorem out_final (c : D4) : (dat0 m c).arrAt 5 cfg0.N = outF (pvOf m) c :=
  (dat0 m c).arrAt_eq_of_after_last 5 t0_0 (by decide +kernel) (outF (pvOf m) c) fun j => rfl

theorem arr_first (c : D4) : ∀ w : Fin 6, (dat0 m c).arrAt w 0 = V1 m c (Proc.devRef .tc (Pipeline.arrRef spec0 w))
  | 0 => rfl | 1 => rfl | 2 => rfl | 3 => rfl | 4 => rfl | 5 => rfl
theorem arr_last (c : D4) : ∀ w : Fin 6, (dat0 m c).arrAt w cfg0.N = V2 m (outs m) c (Proc.devRef .tc (Pipeline.arrRef spec0 w))
  | 0 => ((dat0 m c).arrAt_in 0 rfl _).trans (V2_of m (outs m) c main_arg0 (by decide)).symm
  | 1 => ((dat0 m c).arrAt_in 1 rfl _).trans (V2_of m (outs m) c main_arg1 (by decide)).symm
  | 2 => ((dat0 m c).arrAt_in 2 rfl _).trans (V2_of m (outs m) c main_v16 (by decide)).symm
  | 3 => ((dat0 m c).arrAt_in 3 rfl _).trans (V2_of m (outs m) c main_v18 (by decide)).symm
  | 4 => ((dat0 m c).arrAt_in 4 rfl _).trans (V2_of m (outs m) c main_arg4 (by decide)).symm
  | 5 => (out_final m c).trans (V2_v19 m c).symm

/-- The buffers no window stages from or to. -/
abbrev others : Finset (DevRef τ sig) := Pipeline.ucRefs τ sig \ Pipeline.arrRefs (τ := τ) spec0

theorem rest_eq (c : D4) (b : DevRef τ sig) (hb : b ∈ others \ (∅ : Finset (DevRef τ sig))) : V2 m (outs m) c b = V1 m c b := by
  refine Function.update_of_ne (fun e => ?_) _ _
  rw [Finset.sdiff_empty] at hb
  refine (Finset.mem_sdiff.mp hb).2 ?_
  rw [e]
  exact Finset.mem_map.mpr ⟨main_v19, Finset.mem_image.mpr ⟨5, Finset.mem_univ _, rfl⟩, rfl⟩

theorem stage_low : ∀ (c : Dev nD) (w : Fin 6) (s : Fin (spec0 w).nbuf), lv ((c : Thread nD τ), .dma ((spec0 w).sem s)) () ≤ 0 := by decide +kernel

theorem osem_facts : Pipeline.OwnSemFacts spec0 osem := by decide

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) kit rfl (fun c => (body0 m c).loose)
    (fun _ => 0) O₀ (fun c => (owed_first m c).trans (zero_add _).symm) (owed_last m) (fun _ => rfl)
    (fun _ w => by show (if _ then fullShare else fullShare) = fullShare; exact ite_self _)
    (V1 m) (V2 m (outs m)) (rest_eq m)
    (Tk m) Yk (Xk m) Yk (hopen m) (hin m) (hout m)
    (fun c => by iintro H; imodintro; iexact H)
    (fun _ => 0)
    ⟨fun c w s => by rw [L_tc]; exact Finset.mem_singleton_self _, stage_low, fun c t g i h => cutD m c t g i h⟩
    (fun _ => iprop(emp))
    (arr_first m) (arr_last m)

/-! ## Between the program's items -/

/-- What a device holds beside its buffers: before the region, and after it. -/
def E : Fin 2 → D4 → sProp 𝕄
  | 0 => fun c => iprop(Tk m c ∗ (∃ r, prngReg c r) ∗ ∃ W, owes (c : Thread nD τ) (O₀ c) W)
  | 1 => fun c => iprop(semVal (barCell c) 0 ∗ ∃ W, owes (c : Thread nD τ) (0 : CellTallies nD τ sig Unit) W)

theorem arr_sub : Pipeline.arrRefs (τ := τ) spec0 ⊆ Pipeline.ucRefs τ sig := Pipeline.arrRefs_sub_ucRefs _ (by decide)

theorem reg_pre (c : D4) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split (c.tc : Thread nD τ) arr_sub (V1 m c), zero_add]
  show iprop(_ ∗ Tk m c ∗ (∃ r, prngReg c r) ∗ ∃ W, owes (c : Thread nD τ) (O₀ c) W) ⊢ _
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : D4) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c
    ∗ ∃ Wd, owes (c : Thread nD τ) (0 : CellTallies nD τ sig Unit) Wd) ⊢ _
  rw [StableHlo.held_sub_split (c.tc : Thread nD τ) arr_sub (V2 m (outs m) c)]
  show _ ⊢ iprop(_ ∗ Yk c ∗ ∃ W, owes (c : Thread nD τ) (0 : CellTallies nD τ sig Unit) W)
  iintro ⟨Ha, -, ⟨Ho, -⟩, HY, HO⟩
  isplitl [Ha Ho]; · isplitl [Ha] <;> iassumption
  isplitl [HY] <;> iassumption

end Cert.KernelIdeal.Talk

end
-- ==== Proof.KernelIdealLaunch.lean ====
module

public import proofs.«01_k».proof.Proof.KernelIdealRegion

@[expose] public section

noncomputable section

namespace Cert.KernelIdeal.Talk

open Cert.KernelIdeal Cert.KernelIdeal.Gen Cert.Held

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! # The launch

  Every cell's invariant is made at launch; the thirteen own cells of a device stay closed until its region opens them. -/

theorem osem_inj : Function.Injective osem := by decide
theorem osem_ne_bar : ∀ i, osem i ≠ SemLoc.reg barrier0 := by decide

def barEmb : D4 ↪ GSem nD τ sig := ⟨barCell, fun _ _ h => congrArg (fun g : GSem nD τ sig => g.1.1) h⟩
def ownEmb : D4 × Fin 13 ↪ GSem nD τ sig :=
  ⟨fun ci => ownCell ci.1 ci.2, fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨ci, -, h⟩ := Finset.mem_map.mp h₂
  exact osem_ne_bar ci.2 (congrArg Prod.snd h)

/-- The duties device `c` pays, in five families of three. -/
def tokOf (c : D4) (f : Fin 5) (k : Fin 3) : GSem nD τ sig × ℕ × D4 :=
  match f with
  | 0 => (barCell (src c k), 0, c)
  | 1 => (rcvCell (oth c k) (slot c (oth c k)), 0, 0)
  | 2 => (sndCell c (oth c k), 0, 0)
  | 3 => (agrCell (src c k) (slot c (src c k)), 0, 0)
  | 4 => (agsCell c k, 0, 0)

/-- The device, the counter and the duty's name of each, as numbers. -/
def tokNat (x : GSem nD τ sig × ℕ × D4) : ℕ × ℕ × ℕ :=
  (x.1.1.1.val, (match x.1.2 with | .reg _ => 0 | .dma j => 1 + j.val), x.2.2.val)
theorem tokNat_inj : ∀ c f k c' f' k', tokNat (tokOf c f k) = tokNat (tokOf c' f' k') → (c, f, k) = (c', f', k') := by decide +kernel

def tokEmb : D4 × Fin 5 × Fin 3 ↪ GSem nD τ sig × ℕ × D4 :=
  ⟨fun x => tokOf x.1 x.2.1 x.2.2, fun x y h => tokNat_inj x.1 x.2.1 x.2.2 y.1 y.2.1 y.2.2 (congrArg tokNat h)⟩
def talkToks : Finset (GSem nD τ sig × ℕ × D4) := Finset.univ.map tokEmb

theorem toks_dealt : bigSep talkToks (fun x => (dutyTok ER x.1 x.2.1 x.2.2 : sProp 𝕄)) = bigSep Finset.univ fun c : D4 => toks c := by
  unfold talkToks
  rw [bigSep_map, bigSep_univ_prod]
  refine bigSep_congr fun c _ => ?_
  rw [bigSep_univ_prod, bigSep_univ_eq_bigSepL ([0, 1, 2, 3, 4] : List (Fin 5)) (by decide) (by decide)]
  rfl

/-- The launch element. -/
def u₀ : UU :=
  (initOf (Pipeline.cells (Pipeline.pin (pcfgs (F := F)) adm) cellOf_inj) (Pipeline.launchToks (Pipeline.pin (pcfgs (F := F)) adm) cellOf_inj),
    launchOf barCells ownCells talkToks)

/-- The protocol's part of it, kept at device 0 until it is dealt. -/
def atDev0 (X : sProp 𝕄) (c : D4) : sProp 𝕄 := if c = 0 then X else iprop(emp)
theorem bigSep_atDev0 (X : sProp 𝕄) : bigSep Finset.univ (atDev0 X) = X := by
  have e : bigSep (Finset.univ.erase (0 : D4)) (atDev0 X) = (BI.emp : sProp 𝕄) := by
    refine (bigSep_congr (Ψ := fun _ => (BI.emp : sProp 𝕄)) fun c hc => ?_).trans (BI.bigSep_emp_const _)
    exact if_neg (Finset.ne_of_mem_erase hc)
  rw [bigSep_univ_at _ (0 : D4), e, show atDev0 X 0 = X from if_pos rfl]
  exact BI.equiv_iff.mp sep_emp
def G : D4 → sProp 𝕄 := atDev0 (BI.own (ER (launchOf barCells ownCells talkToks)))

/-! ## The credit each device is launched with -/

/-- How many signals, -/
def sigs (d : D4) (g : GSem nD τ sig) : ℕ := ∑ k : Fin 3, if g = barCell (src d k) then 1 else 0
/-- and how many messages device `d` owes to a counter. -/
def msgs (d : D4) (g : GSem nD τ sig) : ℕ :=
  ∑ k : Fin 3, ((if g = rcvCell (oth d k) (slot d (oth d k)) then 1 else 0) + if g = agrCell (src d k) (slot d (src d k)) then 1 else 0)

theorem owed_count (d : D4) (g : GSem nD τ sig) : O₀ d g () = sigs d g + msgs d g * N := by
  have e : ∀ (g' : GSem nD τ sig) (n : ℕ), (tallyAt g' () n : CellTallies nD τ sig Unit) g () = (if g = g' then 1 else 0) * n := fun g' n => by
    rw [tallyAt_apply]
    by_cases h : g = g'
    · rw [if_pos ⟨h, rfl⟩, if_pos h, Nat.one_mul]
    · rw [if_neg fun h' => h h'.1, if_neg h, Nat.zero_mul]
  unfold O₀ OR OA sigs msgs
  simp only [Pi.add_apply, Finsupp.add_apply, e, Fin.sum_univ_three, Pi.zero_apply, Finsupp.zero_apply]
  ring

theorem sum_owed (g : GSem nD τ sig) (a b : ℕ) (ha : ∑ d, sigs d g = a) (hb : ∑ d, msgs d g = b) :
    tallyOn g (launchCredit (Pipeline.owing O₀) 0 g) = (tallyAt g () (a + b * N) : CellTallies nD τ sig Unit) := by
  unfold tallyAt
  refine congrArg _ (Finsupp.ext fun u => ?_)
  cases u
  rw [Pipeline.launchCredit_owing, Finsupp.single_eq_same, Finset.sum_congr rfl fun d _ => owed_count d g, Finset.sum_add_distrib,
    ← Finset.sum_mul, ha, hb]

/-- The credit a counter's device is launched with. -/
def lent (g : GSem nD τ sig) : sProp 𝕄 := cred (tallyOn g (launchCredit (Pipeline.owing O₀) 0 g))

theorem lent_bar (c : D4) : (lent (barCell c) : sProp 𝕄) = cred (tallyAt (barCell c) () 3) := by
  unfold lent
  rw [sum_owed (barCell c) 3 0 (by revert c; decide +kernel) (by revert c; decide +kernel), Nat.zero_mul]
theorem lent_rcv (c : D4) (s : Fin 3) : (lent (rcvCell c s) : sProp 𝕄) = cred (tallyAt (rcvCell c s) () N) := by
  unfold lent
  rw [sum_owed (rcvCell c s) 0 1 (by revert c s; decide +kernel) (by revert c s; decide +kernel), Nat.one_mul, Nat.zero_add]
theorem lent_agr (c : D4) (s : Fin 3) : (lent (agrCell c s) : sProp 𝕄) = cred (tallyAt (agrCell c s) () N) := by
  unfold lent
  rw [sum_owed (agrCell c s) 0 1 (by revert c s; decide +kernel) (by revert c s; decide +kernel), Nat.one_mul, Nat.zero_add]

theorem creds_of (c : D4) : (Pipeline.launchCred O₀ c : sProp 𝕄) ⊢ creds c := by
  have hs : (Pipeline.launchCred O₀ c : sProp 𝕄) ⊢ iprop(lent (barCell c) ∗ bigSep Finset.univ fun i : Fin 13 => lent (ownCell c i)) := by
    unfold Pipeline.launchCred
    rw [bigSep_univ_at _ (SemLoc.reg barrier0)]
    refine sep_mono_right ?_
    refine (bigSep_subset (t := Finset.univ.map ⟨osem, osem_inj⟩) fun sm h => ?_).trans ?_
    · obtain ⟨i, -, rfl⟩ := Finset.mem_map.mp h
      exact Finset.mem_erase.mpr ⟨osem_ne_bar i, Finset.mem_univ _⟩
    · rw [bigSep_map]; exact BI.Entails.refl _
  refine hs.trans ?_
  rw [own13 c lent, lent_bar]
  simp only [lent_rcv, lent_agr]
  unfold creds
  iintro ⟨A, -, B, -, C⟩
  isplitl [A]; · iexact A
  isplitl [B] <;> iassumption

/-! ## Dealing -/

theorem unscoped_eq : ∀ sm : SemLoc sig, sm.isScoped .tc = false → sm = .reg barrier0 := by decide
theorem unscopedSems0_eq (c : D4) : (unscopedSems0 c : sProp 𝕄) = semVal (barCell c) 0 := by
  unfold unscopedSems0
  rw [show (Finset.univ.filter fun sm : SemLoc sig => ¬ sm.isScoped .tc = true) = {SemLoc.reg barrier0} by decide, bigSep_singleton]

/-- What a device has at launch that is no ghost state of the protocol. -/
def bundle (c : D4) : sProp 𝕄 :=
  iprop(StableHlo.held (c : Thread nD τ) (Pipeline.ucRefs τ sig) (V0 m c) ∗ creds c ∗ owes (c : Thread nD τ) (O₀ c) ∅ ∗ ∃ r, prngReg c r)

/-- The first thread state. -/
abbrev T₀ (c : D4) : sProp 𝕄 := iprop(StableHlo.held (c : Thread nD τ) (Pipeline.ucRefs τ sig) (V0 m c) ∗ E m 0 c)
/-- The last, but for what is owed. -/
abbrev Tₙ (c : D4) : sProp 𝕄 := iprop(StableHlo.held (c : Thread nD τ) (Pipeline.ucRefs τ sig) (V3 m (outs m) c) ∗ semVal (barCell c) 0)

theorem T₀_intro (κ : GSem nD τ sig → ℕ) (c : D4) : iprop(Rec (pvOf m) κ ∗ (dormant c ∗ bundle m c)) ⊢ T₀ m c := by
  show _ ⊢ iprop(StableHlo.held (c : Thread nD τ) (Pipeline.ucRefs τ sig) (V0 m c) ∗ Tk m c ∗ (∃ r, prngReg c r) ∗ ∃ W, owes (c : Thread nD τ) (O₀ c) W)
  unfold bundle Tk
  iintro ⟨#HR, Hd, Hh, Hc, HO, Hp⟩
  isplitl [Hh]; · iexact Hh
  isplitl [Hd Hc]
  · isplitl [Hd]
    · iexists κ; isplitr; · iexact HR
      iexact Hd
    iexact Hc
  isplitl [Hp]; · iexact Hp
  iexists ∅; iexact HO

theorem core_init (c : D4) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show (unscopedBufs c (fun b => m ((c : Thread nD τ).loc b)) : sProp 𝕄) = StableHlo.held (c : Thread nD τ) (Pipeline.ucRefs τ sig) (V0 m c)
    from Pipeline.unscopedBufs_held c (V0 m c), unscopedSems0_eq]
  unfold bundle
  iintro ⟨Hh, Hs, HO, Hc, Hp, HG⟩
  isplitl [Hh HO Hc Hp]
  · isplitl [Hh]; · iexact Hh
    isplitl [Hc]; · iapply (creds_of (F := F) c); iexact Hc
    isplitl [HO]; · iexact HO
    iexists (ρ c); iexact Hp
  isplitl [Hs] <;> iassumption

theorem records_intro (pv : D4 → D4 → Vec F S1x256x768 .f32) (κ : GSem nD τ sig → ℕ) :
    iprop((bigSep (barCells ∪ ownCells) fun g => cellInv ER (talkRd pv) (κ g) g) ∗ bigSep barCells fun g => reached ER g 0) ⊢ Rec pv κ := by
  unfold Rec
  rw [bigSep_union disjoint_cells, bigSep_map, bigSep_map, bigSep_map]
  show iprop(((bigSep Finset.univ fun c : D4 => cellInv ER (talkRd pv) (κ (barCell c)) (barCell c))
    ∗ bigSep Finset.univ fun ci : D4 × Fin 13 => cellInv ER (talkRd pv) (κ (ownCell ci.1 ci.2)) (ownCell ci.1 ci.2))
    ∗ bigSep Finset.univ fun c : D4 => reached ER (barCell c) 0) ⊢ _
  iintro ⟨⟨A, B⟩, C⟩
  isplitl [A]; · iexact A
  isplitl [B] <;> iassumption

theorem dormant_intro :
    iprop((bigSep barCells fun g => atPos ER g 0 ∅ 0) ∗ (bigSep ownCells fun g => openTok ER g)
      ∗ bigSep talkToks fun x => dutyTok ER x.1 x.2.1 x.2.2) ⊢ (bigSep Finset.univ fun c : D4 => dormant c : sProp 𝕄) := by
  unfold dormant
  rw [toks_dealt, bigSep_map, bigSep_map, bigSep_univ_prod]
  show iprop((bigSep Finset.univ fun c : D4 => atPos ER (barCell c) 0 ∅ 0)
    ∗ (bigSep Finset.univ fun c : D4 => bigSep Finset.univ fun i : Fin 13 => openTok ER (ownCell c i)) ∗ bigSep Finset.univ fun c : D4 => toks c) ⊢ _
  iintro ⟨A, B, C⟩
  iapply zip2; isplitl [A]; · iexact A
  iapply zip2; isplitl [B] <;> iassumption

theorem init :
    iprop((bigSep Finset.univ fun c : D4 => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : (bigSep Finset.univ fun c : D4 => (semVal (barCell c) 0 : sProp 𝕄)) ⊢ bigSep barCells fun g => (semVal g 0 : sProp 𝕄) :=
    Entails.of_eq (bigSep_map (s := Finset.univ) barEmb (Φ := fun g : GSem nD τ sig => (semVal g 0 : sProp 𝕄))).symm
  have hs : (bigSep Finset.univ fun c : D4 => iprop(bundle m c ∗ (semVal (barCell c) 0 ∗ G c)))
      ⊢ iprop((bigSep Finset.univ fun c : D4 => bundle m c) ∗ (bigSep Finset.univ fun c : D4 => semVal (barCell c) 0) ∗ bigSep Finset.univ (G (F := F))) := by
    rw [bigSep_sep', bigSep_sep']
  iintro ⟨H, -⟩
  ihave H := (show _ ⊢ _ from bigSep_mono fun c _ => core_init m ρ c) $$ H
  ihave H := hs $$ H
  icases H with ⟨HB, Hv, HG⟩
  ihave Hu := (show bigSep Finset.univ (G (F := F)) ⊢ BI.own (ER (launchOf barCells ownCells talkToks)) from
    Entails.of_eq (bigSep_atDev0 (BI.own (ER (launchOf barCells ownCells talkToks))))) $$ HG
  imod (Rounds.fund_launch ER (talkRd (pvOf m)) disjoint_cells (fun g _ h => h) talkToks) $$ [Hv Hu] with ⟨%κ, -, #HI, #Hr, Hat, Ho, Ht⟩
  · isplitl [Hv]
    · iapply hv $$ Hv
    · iexact Hu
  imodintro
  iapply (bigSep_with_persistent (R := Rec (pvOf m) κ) (Φ := fun c => iprop(dormant c ∗ bundle m c)) fun c _ => T₀_intro m κ c)
  isplitr
  · iapply (records_intro (pvOf m) κ)
    isplitr; · iexact HI
    iexact Hr
  iapply zip2
  isplitr [HB]
  · iapply dormant_intro
    isplitl [Hat]; · iexact Hat
    isplitl [Ho] <;> iassumption
  · iexact HB

/-! ## The run -/

theorem mem_uc (r : Ref sig .tc) (h : ¬ (Proc.devRef (τ := τ) .tc r).isScoped) : Proc.devRef .tc r ∈ Pipeline.ucRefs τ sig :=
  Finset.mem_filter.mpr ⟨StableHlo.devRef_mem_tcRefs r, h⟩

set_option backward.isDefEq.respectTransparency.types false in
/-- From any memory with zero counters every run ends; the arguments are unchanged, the result is the reshaped output of the
    region, and every counter reads zero. -/
theorem run_main : θ_run defs (onTc (τ := τ) (main (F := F))) ⟨m, fun _ => 0, ρ⟩
    (fun r => (∀ c : D4, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v20) = V3 m (outs m) c main_v20) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Pipeline.Seg.run_eq_chain,
        show (segs m (outs m) 𝒱₀ L lv (E m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne (G (F := F)) (u₀ (F := F))
    (hu₀ := by
      unfold u₀ G
      iintro Hu
      ihave H := (ownU_pair _ _) $$ Hu
      icases H with ⟨HP, HX⟩
      imodintro
      isplitl [HP]; · iexact HP
      rw [bigSep_atDev0]; iexact HX)
    (T₀ := T₀ m) (Tₙ := Tₙ m)
    (hch := fun c => ⟨.rfl, reg_pre m c, reg_post m c, ?_⟩)
    (hinit := init m ρ)
    (QY := fun c s => ((s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_arg4) = m ((c : Thread nD τ).loc main_arg4))
        ∧ s.mem ((c : Thread nD τ).loc main_v20) = V3 m (outs m) c main_v20) ∧ s.sem (barCell c) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outs m) c)
        ∗ semVal (barCell c) 0 ∗ ∃ W, owes (c : Thread nD τ) (0 : CellTallies nD τ sig Unit) W)
      ⊢ iprop(Tₙ m c ∗ ∃ W, owes (c : Thread nD τ) (0 : CellTallies nD τ sig Unit) W)
    iintro ⟨Hh, Hb, HO⟩
    isplitl [Hh Hb]
    · isplitl [Hh] <;> iassumption
    · iexact HO
  · unfold Tₙ StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨⟨(h _ (mem_uc main_arg0 (by decide))).trans (V3_main_arg0 m (outs m) c),
        (h _ (mem_uc main_arg1 (by decide))).trans (V3_main_arg1 m (outs m) c),
        (h _ (mem_uc main_arg2 (by decide))).trans (V3_main_arg2 m (outs m) c),
        (h _ (mem_uc main_arg3 (by decide))).trans (V3_main_arg3 m (outs m) c),
        (h _ (mem_uc main_arg4 (by decide))).trans (V3_main_arg4 m (outs m) c)⟩,
        h _ (mem_uc main_v20 (by decide))⟩, by simpa using hb⟩
    · iexact HSI

end Cert.KernelIdeal.Talk

end
-- ==== Proof.Frames.lean ====
/- The frames of the three programs and the constant the idealization names.
   Each frame is the run of its module with the values dropped. -/
module

public import proofs.«01_k».proof.Defs
public import proofs.«01_k».proof.Proof.Precond
public import proofs.«01_k».proof.Proof.KernelLaunch
public import proofs.«01_k».proof.Proof.KernelIdealLaunch
public import proofs.«01_k».proof.Proof.Gen.ReferenceIdeal.Run
public import Idealize.ShloMosaic.Lib.Claim

@[expose] public section

noncomputable section

namespace Cert.Frames

open Idealize.ShloMosaic Idealize.ShloMosaic.TcCoe Idealize.SL.Sem
open Cert.Precond

/-- The kernel's frame. -/
theorem kernel : Cert.quiescent_Kernel := fun m g _ =>
  (θ_run _ _ _).mono (fun _ h => ⟨fun c => (h.1 c).1, h.2⟩) (Cert.Kernel.Talk.run_main m g)

/-- The idealized kernel's frame. -/
theorem kernelIdeal : Cert.quiescent_KernelIdeal := fun m g _ =>
  (θ_run _ _ _).mono (fun _ h => ⟨fun c => (h.1 c).1, h.2⟩) (Cert.KernelIdeal.Talk.run_main m g)

/-- The same, under the precondition, which it does not need. -/
theorem kernelIdeal_pre : Cert.quiescent_KernelIdeal_pre_finite_KernelIdeal := fun m g _ => kernelIdeal m g trivial

/-- The reference's frame: it has no semaphore. -/
theorem reference : Cert.quiescent_ReferenceIdeal := fun m g _ =>
  (θ_run _ _ _).mono (fun _ h => ⟨fun c => (h c).2, funext fun s => nomatch s⟩) (Cert.ReferenceIdeal.Value.run m g)

/-- The same, under the precondition, which it does not need. -/
theorem reference_pre : Cert.quiescent_ReferenceIdeal_pre_finite_ReferenceIdeal := fun m g _ => reference m g trivial

/-- The mask's bias, one constant of the kernel, is named minus infinity. -/
theorem preserves : Cert.preserves_Kernel_KernelIdeal :=
  IdealRules.named_const.statement Cert.KernelIdeal.κ "mask" .f32 0xCE6E6B28#32 ⊥ rfl

end Cert.Frames

end
-- ==== Proof.ValueRow.lean ====
/- The block mask, and one row of a masked softmax over the extended reals: weights normalized before or after the sum
over the keys. -/
module

public import Idealize.ShloMosaic.Lib.Pointwise

@[expose] public section

noncomputable section

namespace Cert.Row

open Idealize.ShloMosaic

theorem coe_sum {ι : Type} (t : Finset ι) (f : ι → ℝ) : ∑ j ∈ t, (f j : EReal) = ((∑ j ∈ t, f j : ℝ) : EReal) := by
  classical
  induction t using Finset.induction_on with
  | empty => simp
  | insert a t ha ih => rw [Finset.sum_insert ha, Finset.sum_insert ha, ih, EReal.coe_add]

/-- A nonnegative real factor goes through a sum of extended reals. -/
theorem sum_mul_coe {ι : Type} (t : Finset ι) (f : ι → EReal) (r : ℝ) (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih,
      EReal.right_distrib_of_nonneg_of_ne_top (by exact_mod_cast hr) (EReal.coe_ne_top r)]

variable {n : Nat} (p : Fin n → Prop) [DecidablePred p] (s : Fin n → ℝ)

/-- A score where the mask is on, −∞ where it is off. -/
def ms (j : Fin n) : EReal := if p j then (s j : EReal) else ⊥

/-- The exponential where the mask is on, zero where it is off. -/
def e (j : Fin n) : ℝ := if p j then Real.exp (s j) else 0

theorem exp_bias (j : Fin n) : Ideal.exp ((s j : EReal) + (if p j then 0 else ⊥)) = (e p s j : EReal) := by
  unfold e
  split
  · rw [add_zero]; rfl
  · rw [EReal.add_bot]; exact EReal.coe_zero.symm

theorem max_real (j0 : Fin n) (h0 : p j0) : ∃ μ : ℝ, Finset.univ.fold max ⊥ (ms p s) = (μ : EReal) := by
  have hlo : (s j0 : EReal) ≤ Finset.univ.fold max ⊥ (ms p s) :=
    (Finset.le_fold_max _).2 (.inr ⟨j0, Finset.mem_univ _, by simp [ms, h0]⟩)
  have hhi : Finset.univ.fold max ⊥ (ms p s) < ⊤ := by
    refine (Finset.fold_max_lt _).2 ⟨bot_lt_top, fun j _ => ?_⟩
    unfold ms; split
    · exact EReal.coe_lt_top _
    · exact bot_lt_top
  refine ⟨(Finset.univ.fold max ⊥ (ms p s)).toReal, (EReal.coe_toReal hhi.ne ?_).symm⟩
  intro h; rw [h] at hlo
  exact EReal.coe_ne_bot _ (le_bot_iff.1 hlo)

theorem exp_less (μ : ℝ) (j : Fin n) : Ideal.exp (ms p s j - (μ : EReal)) = ((e p s j * Real.exp (-μ) : ℝ) : EReal) := by
  unfold ms e
  split
  · rw [← EReal.coe_sub, ← Real.exp_add, ← sub_eq_add_neg]; rfl
  · rw [EReal.bot_sub, zero_mul]; exact EReal.coe_zero.symm

theorem sum_pos (j0 : Fin n) (h0 : p j0) : 0 < ∑ j, e p s j := by
  refine Finset.sum_pos' (fun j _ => ?_) ⟨j0, Finset.mem_univ _, ?_⟩
  · unfold e; split
    · exact (Real.exp_pos _).le
    · exact le_rfl
  · simp only [e, h0, if_true]; exact Real.exp_pos _

/-- Dividing the weighted sum by the weights' sum is summing with the divided weights, taken after the row's largest
score is subtracted. -/
theorem row (V : Fin n → EReal) (j0 : Fin n) (h0 : p j0) :
    (∑ j, Ideal.exp ((s j : EReal) + (if p j then 0 else ⊥)) * V j)
        * Ideal.div 1 (∑ j, Ideal.exp ((s j : EReal) + (if p j then 0 else ⊥)))
      = ∑ j, V j * Ideal.div (Ideal.exp (ms p s j - Finset.univ.fold max ⊥ (ms p s)))
          (∑ j, Ideal.exp (ms p s j - Finset.univ.fold max ⊥ (ms p s))) := by
  obtain ⟨μ, hμ⟩ := max_real p s j0 h0
  have hS := sum_pos p s j0 h0
  have hc := Real.exp_pos (-μ)
  simp only [hμ, exp_bias, exp_less, coe_sum]
  rw [← Finset.sum_mul, Ideal.div_coe hS.ne', one_mul, sum_mul_coe _ _ _ (by positivity)]
  refine Finset.sum_congr rfl fun j _ => ?_
  rw [Ideal.div_coe (mul_pos hS hc).ne', ← EReal.coe_mul, mul_comm (e p s j : EReal), mul_assoc, ← EReal.coe_mul]
  congr 2
  field_simp

/-- Whether block `a`'s queries attend to block `b`'s keys: the same block, the first block, or numbers adding up to a
multiple of three. -/
def blockAttends (a b : Nat) : Prop := a = b ∨ b = 0 ∨ (a + b) % 3 = 0

instance blockDec (a b : Nat) : Decidable (blockAttends a b) := by unfold blockAttends; infer_instance

/-- Whether query `i` attends to key `j`. -/
def attends (i j : Fin 512) : Prop := blockAttends (i.val / 64) (j.val / 64)

instance attendsDec (i : Fin 512) : DecidablePred (attends i) := fun j => blockDec (i.val / 64) (j.val / 64)

theorem attends_first (i : Fin 512) : attends i 0 := .inr (.inl rfl)

end Cert.Row

end
-- ==== Proof.ValueKernel.lean ====
/- The kernel's values read at an index: the heads, the context times the output projection, the sum over the devices. -/
module

public import proofs.«01_k».proof.Proof.KernelIdealRegion
public import proofs.«01_k».proof.Proof.ValueRow

@[expose] public section

noncomputable section

namespace Cert.KernelIdeal.Talk

open Cert.KernelIdeal Cert.KernelIdeal.Gen
open Idealize.ShloMosaic
open Idealize.ShloMosaic.Pointwise
open Cert.Row

section heads

variable {F : FTy → Type} [FloatOps F] [Named F] (I : Ins F)

theorem slices_head (h : Fin 8) : S512x512.Slices ![0, 64 * h.val] S512x64 := by revert h; decide
/-- The queries of head `h`. -/
def qs (q : FVec F S512x512 .bf16) (h : Fin 8) : FVec F S512x64 .bf16 :=
  extractStridedSlice S512x64 ![0, 64 * h.val] q (slices_head h)
/-- The queries of batch row `b`. -/
def qB (b : Fin 2) : FVec F S512x512 .bf16 := k0_pay63 (gv I) (xB I b)
/-- The context columns of head `h`, batch row `b`: one form for all sixteen. -/
def hd (b : Fin 2) (h : Fin 8) : Vec F S512x64 .f32 := k0_pay48 bias (qs (qB I b) h) (kB I b h) (vB I b h)

theorem hv0_eq : hv0 I = hd I 0 := by
  funext h
  match h with
  | 0 | 1 | 2 | 3 | 4 | 5 | 6 | 7 => rfl
theorem hv1_eq : hv1 I = hd I 1 := by
  funext h
  match h with
  | 0 | 1 | 2 | 3 | 4 | 5 | 6 | 7 => rfl

end heads

variable (I : Ins Ideal)

theorem xB_at (b : Fin 2) (i : Fin 512) (k : Fin 768) : xB I b (ix3 0 i k) = I.x (ix3 b i k) := by
  show I.x ((RX b).emb (ix3 0 i k)) = _
  congr 1
  funext a
  match a with
  | 0 => exact Fin.ext (by show b.val + 1 * 0 = b.val; omega)
  | 1 => exact Fin.ext (by show 0 + 1 * i.val = i.val; omega)
  | 2 => exact Fin.ext (by show 0 + 1 * k.val = k.val; omega)
theorem gB_at (i : Fin 768) (k : Fin 512) : gB I (ix2 i k) = I.g (ix2 i k) := by
  show I.g (RG.emb (ix2 i k)) = _
  congr 1
  funext a
  match a with
  | 0 => exact Fin.ext (by show 0 + 1 * i.val = i.val; omega)
  | 1 => exact Fin.ext (by show 0 + 1 * k.val = k.val; omega)
theorem oB_at (i : Fin 512) (k : Fin 768) : oB' I (ix2 i k) = I.o (ix2 i k) := by
  show I.o (RO.emb (ix2 i k)) = _
  congr 1
  funext a
  match a with
  | 0 => exact Fin.ext (by show 0 + 1 * i.val = i.val; omega)
  | 1 => exact Fin.ext (by show 0 + 1 * k.val = k.val; omega)
theorem RKV_at (b : Fin 2) (h : Fin 8) (j : Fin 512) (d : Fin 64) : (RKV b h).emb (ix4 0 0 j d) = ix4 b h j d := by
  funext a
  match a with
  | 0 => exact Fin.ext (by show b.val + 1 * 0 = b.val; omega)
  | 1 => exact Fin.ext (by show h.val + 1 * 0 = h.val; omega)
  | 2 => exact Fin.ext (by show 0 + 1 * j.val = j.val; omega)
  | 3 => exact Fin.ext (by show 0 + 1 * d.val = d.val; omega)
theorem kB_at (b : Fin 2) (h : Fin 8) (j : Fin 512) (d : Fin 64) : kB I b h (ix4 0 0 j d) = I.k (ix4 b h j d) :=
  congrArg I.k (RKV_at b h j d)
theorem vB_at (b : Fin 2) (h : Fin 8) (j : Fin 512) (d : Fin 64) : vB I b h (ix4 0 0 j d) = I.v (ix4 b h j d) :=
  congrArg I.v (RKV_at b h j d)

theorem blk_at (i : Fin 512) : Scalar.select
    (IntOp.andi
      (IntOp.cmpi .ne
        (IntOp.subi (BitVec.setWidth 32 (IntOp.cmpi .sgt (BitVec.ofNat 32 i.val) 0#32))
          (BitVec.setWidth 32 (IntOp.cmpi .slt (BitVec.ofNat 32 i.val) 0#32)))
        (Scalar.subi (Scalar.extui (Scalar.cmpi .sgt 64#32 0#32)) (Scalar.extui (Scalar.cmpi .slt 64#32 0#32))))
      (IntOp.cmpi .ne (IntOp.remsi .vector (BitVec.ofNat 32 i.val) 64#32) 0#32))
    (IntOp.subi (IntOp.divsi .vector (BitVec.ofNat 32 i.val) 64#32) 1#32)
    (IntOp.divsi .vector (BitVec.ofNat 32 i.val) 64#32) = BitVec.ofNat 32 (i.val / 64) := by
  revert i
  decide +kernel

theorem bias_at (i j : Fin 512) : bias (F := Ideal) (ix2 i j) = if attends i j then 0 else ⊥ := by
  pointwise [bias, k0_pay36, mA, mB, mC, mD, k0_pay33, k0_pay34, k0_pay35, k0_pay31, k0_pay32, mIota, mSign, k0_pay29, k0_pay30]
  rw [blk_at, blk_at]
  have hn : (Named.named κ "mask" 0xCE6E6B28#32 : Ideal .f32) = ⊥ := IdealRules.named_const.ideal_named_scalar _ _ _ ⊥ rfl
  rw [hn]
  have hi : i.val / 64 < 8 := by omega
  have hj : j.val / 64 < 8 := by omega
  show _ = @ite _ (blockAttends (i.val / 64) (j.val / 64)) (blockDec _ _) _ _
  generalize i.val / 64 = a at hi ⊢
  generalize j.val / 64 = b at hj ⊢
  rw [show ∀ w : BitVec 1, Scalar.select w (0 : EReal) ⊥ = if w = 1#1 then 0 else ⊥ from fun _ => rfl]
  refine if_congr ?_ rfl rfl
  revert a b
  decide +kernel

/-- A query element of batch row `b`. -/
def qAt (b : Fin 2) (i : Fin 512) (e : Fin 512) : EReal :=
  (∑ t : Fin 768, I.x (ix3 b i t) * I.g (ix2 t e)) * Ideal.ofBits .f32 0x3E000000#32

theorem qB_at (b : Fin 2) (i : Fin 512) (e : Fin 512) : qB I b (ix2 i e) = qAt I b i e := by
  pointwise [qB, k0_pay63, gv, k0_pay37]
  simp only [xB_at, gB_at]
  rfl

theorem hd_at (b : Fin 2) (h : Fin 8) (i : Fin 512) (d : Fin 64) : hd I b h (ix2 i d)
    = (∑ j : Fin 512, Ideal.exp ((∑ e : Fin 64, qAt I b i ⟨64 * h.val + e.val, by omega⟩ * I.k (ix4 b h j e))
        + (if attends i j then 0 else ⊥)) * I.v (ix4 b h j d))
      * Ideal.div 1 (∑ j : Fin 512, Ideal.exp ((∑ e : Fin 64, qAt I b i ⟨64 * h.val + e.val, by omega⟩ * I.k (ix4 b h j e))
        + (if attends i j then 0 else ⊥))) := by
  pointwise [hd, k0_pay48, qs]
  simp only [qB_at, kB_at, vB_at, bias_at]

theorem ctx_at (h : Fin 8 → Vec Ideal S512x64 .f32) (i k : Fin 512) :
    ctxRead h (ix2 i k) = h ⟨k.val / 64, by omega⟩ (ix2 i ⟨k.val % 64, by omega⟩) := by
  have e : (RW).emb (ix2 i k) = ix2 i k := by
    funext a
    match a with
    | 0 => exact Fin.ext (by show 0 + 1 * i.val = i.val; omega)
    | 1 => exact Fin.ext (by show 0 + 1 * k.val = k.val; omega)
  show ctxJoin h ((RW).emb (ix2 i k)) = _
  rw [e]
  unfold ctxJoin
  congr 1
  funext a
  match a with
  | 0 => rfl
  | 1 => rfl

/-- An element of a device's partial output. -/
def partAt (b : Fin 2) (i : Fin 512) (n : Fin 768) : EReal :=
  ∑ k : Fin 512, hd I b ⟨k.val / 64, by omega⟩ (ix2 i ⟨k.val % 64, by omega⟩) * I.o (ix2 k n)

theorem half_lt (ch : D4) : ch.val / 2 < 2 := by have h : ch.val < 4 := ch.isLt; omega

theorem part_at (ch : D4) (r : Fin 256) (n : Fin 768) : partOut I ch (ix3 0 r n)
    = partAt I ⟨ch.val / 2, half_lt ch⟩ ⟨256 * (ch.val % 2) + r.val, by omega⟩ n := by
  match ch with
  | 0 =>
    show k0_pay59 (ov I) (ctxRead (hv0 I)) (ix3 0 r n) = partAt I 0 _ n
    rw [hv0_eq]; pointwise [k0_pay59, k0_pay58, ov, k0_pay38]; simp only [ctx_at, oB_at]
    rfl
  | 1 =>
    show k0_pay60 (ov I) (ctxRead (hv0 I)) (ix3 0 r n) = partAt I 0 _ n
    rw [hv0_eq]; pointwise [k0_pay60, k0_pay58, ov, k0_pay38]; simp only [ctx_at, oB_at]
    exact congrArg (partAt I 0 · n) (Fin.ext (by show 256 + r.val = 256 * 1 + r.val; omega) : (⟨256 + r.val, by omega⟩ : Fin 512) = _)
  | 2 =>
    show k0_pay80 (ov I) (ctxRead (hv1 I)) (ix3 0 r n) = partAt I 1 _ n
    rw [hv1_eq]; pointwise [k0_pay80, k0_pay79, ov, k0_pay38]; simp only [ctx_at, oB_at]
    exact congrArg (partAt I 1 · n) (Fin.ext (by show r.val = 256 * 0 + r.val; omega) : (⟨r.val, by omega⟩ : Fin 512) = _)
  | 3 =>
    show k0_pay82 (k0_pay81 (ov I) (ctxRead (hv1 I))) (ix3 0 r n) = partAt I 1 _ n
    rw [hv1_eq]; pointwise [k0_pay82, k0_pay81, k0_pay79, ov, k0_pay38]; simp only [ctx_at, oB_at]
    exact congrArg (partAt I 1 · n) (Fin.ext (by show 256 + r.val = 256 * 1 + r.val; omega) : (⟨256 + r.val, by omega⟩ : Fin 512) = _)

/-! ## The exchange -/

variable (pv : D4 → D4 → Vec Ideal S1x256x768 .f32)

theorem red_at (c : D4) (r : Fin 256) (n : Fin 768) : red pv c (ix3 0 r n) = ∑ p : D4, pv p c (ix3 0 r n) := by
  pointwise [red, k0_pay9, sendv, k0_pay1]
  rw [Fin.sum_univ_four (fun p : Fin 4 => pv p c (ix3 0 r n))]
  match c with
  | 0 => rfl
  | 1 => show pv 1 1 _ + pv 2 1 _ + pv 3 1 _ + pv 0 1 _ = _; ac_rfl
  | 2 => show pv 2 2 _ + pv 3 2 _ + pv 0 2 _ + pv 1 2 _ = _; ac_rfl
  | 3 => show pv 3 3 _ + pv 0 3 _ + pv 1 3 _ + pv 2 3 _ = _; ac_rfl

theorem unsq (r : Fin 256) (n : Fin 768) : (Shape.reshapeEquiv numel_sq).symm (ix3 0 r n) = ix2 r n := by
  rw [Shape.reshapeEquiv_symm]
  refine Shape.reshapeEquiv_eq_of_rowMajor _ ?_
  rw [Shape.rowMajor_val_three, Shape.rowMajor_val_two]
  show r.val * 768 + n.val = (0 * 256 + r.val) * 768 + n.val
  omega

theorem outv_at (c ch : D4) (r : Fin 256) (n : Fin 768) : outv pv c ch (ix3 0 r n) = red pv ch (ix3 0 r n) := by
  unfold outv
  split
  · next h => rw [h]
  · show k0_pay11 (agl pv ch) (ix3 0 r n) = _
    pointwise [k0_pay11, agl, agv, k0_pay10]
    rw [unsq]
    rfl

end Cert.KernelIdeal.Talk

end
-- ==== Proof.ValueReference.lean ====
/- The reference's result, read at an index. The generated run states it as one long term; here its parts get names. -/
module

public import proofs.«01_k».proof.Proof.Gen.ReferenceIdeal.Run
public import proofs.«01_k».proof.Proof.ValueRow

@[expose] public section

noncomputable section

namespace Cert.ReferenceIdeal.Read

open Cert.ReferenceIdeal Cert.ReferenceIdeal.Gen
open Idealize.ShloMosaic
open Idealize.ShloMosaic.Pointwise
open Cert.Row

/-- The block of 64 positions that a position lies in, as the program's words. -/
def blk : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- The divisor of the third mask condition. -/
def three : IVec S_ 32 :=
  select (cmpi .eq (id (constantI S_ 32 3#32)) (constantI S_ 32 0#32)) (constantI S_ 32 1#32) (id (constantI S_ 32 3#32))

/-- The query's block number, one row per query. -/
def qBlk : IVec S512x512 32 :=
  broadcastInDim S512x512 ![0, 1] bcast_S512x1_S512x512_0_1 (broadcastInDim S512x1 ![0] bcast_S512_S512x1_0 blk)

/-- The key's block number, one column per key. -/
def kBlk : IVec S512x512 32 :=
  broadcastInDim S512x512 ![0, 1] bcast_S1x512_S512x512_0_1 (broadcastInDim S1x512 ![1] bcast_S512_S1x512_1 blk)

/-- The remainder by three of the two block numbers' sum, before its sign is mended. -/
def remd : IVec S512x512 32 :=
  Host.remsi (addi qBlk kBlk) (broadcastInDim S512x512 ![] bcast_S_S512x512 three)

/-- Which keys a query attends to. -/
def mask : IVec S512x512 1 :=
  ori (ori (cmpi .eq qBlk kBlk) (broadcastInDim S512x512 ![0, 1] bcast_S1x512_S512x512_0_1 (cmpi .eq (broadcastInDim S1x512 ![1] bcast_S512_S1x512_1 blk) (broadcastInDim S1x512 ![] bcast_S_S1x512 (constantI S_ 32 0#32))))) (cmpi .eq (select (andi (cmpi .ne (cmpi .slt remd (broadcastInDim S512x512 ![] bcast_S_S512x512 (constantI S_ 32 0#32))) (broadcastInDim S512x512 ![] bcast_S_S512x512 (cmpi .slt three (constantI S_ 32 0#32)))) (cmpi .ne remd (broadcastInDim S512x512 ![] bcast_S_S512x512 (constantI S_ 32 0#32)))) (addi remd (broadcastInDim S512x512 ![] bcast_S_S512x512 three)) remd) (broadcastInDim S512x512 ![] bcast_S_S512x512 (constantI S_ 32 0#32)))

/-- Which queries attend to some key. -/
def keep : IVec S512 1 := Host.reduce IntOp.ori mask (constantI S_ 1 0#1) reducesTo_S512x512_S512_d1 h_S_

variable {F : FTy → Type} [FloatOps F]

/-- The scores, scaled. -/
def score (a0 : FVec F S2x512x768 .f32) (a1 : FVec F S768x2048 .f32) (a2 : FVec F S2x512x32x64 .f32) :
    FVec F S2x32x512x512 .f32 :=
  mulf (Host.dotGeneral dot_S2x512x32x64_S2x512x32x64_S2x32x512x512_3_3_1_1_02_02 none (shapeCast _ (Host.dotGeneral dot_S2x512x768_S768x2048_S2x512x2048_2_0_01_1_n_n none a0 a1) shapeCasts_S2x512x2048_S2x512x32x64) a2) (broadcastInDim S2x32x512x512 ![] bcast_S_S2x32x512x512 (constant S_ .f32 0x3E000000#32))

/-- The scores with −∞ where the mask is off. -/
def masked (s : FVec F S2x32x512x512 .f32) : FVec F S2x32x512x512 .f32 :=
  select (broadcastInDim S2x32x512x512 ![0, 1, 2, 3] bcast_S1x1x512x512_S2x32x512x512_0_1_2_3 (broadcastInDim S1x1x512x512 ![2, 3] bcast_S512x512_S1x1x512x512_2_3 mask)) s (broadcastInDim S2x32x512x512 ![] bcast_S_S2x32x512x512 (id (constant S_ .f32 0xFF800000#32)))

/-- The exponentials of the scores less their row's largest. -/
def expd (s : FVec F S2x32x512x512 .f32) : FVec F S2x32x512x512 .f32 :=
  Host.exp (subf (masked s) (broadcastInDim S2x32x512x512 ![0, 1, 2, 3] bcast_S2x32x512x1_S2x32x512x512_0_1_2_3 (broadcastInDim S2x32x512x1 ![0, 1, 2] bcast_S2x32x512_S2x32x512x1_0_1_2 (Host.reduce FloatOps.maximumf (masked s) (constant S_ .f32 0xFF800000#32) reducesTo_S2x32x512x512_S2x32x512_d3 h_S_))))

/-- The weights: each exponential over its row's sum. -/
def weight (w : FVec F S2x32x512x512 .f32) : FVec F S2x32x512x512 .f32 :=
  select (broadcastInDim S2x32x512x512 ![0, 1, 2, 3] bcast_S1x1x512x1_S2x32x512x512_0_1_2_3 (broadcastInDim S1x1x512x1 ![2] bcast_S512_S1x1x512x1_2 keep)) (Host.divf w (broadcastInDim S2x32x512x512 ![0, 1, 2, 3] bcast_S2x32x512x1_S2x32x512x512_0_1_2_3 (select (broadcastInDim S2x32x512x1 ![0, 1, 2, 3] bcast_S1x1x512x1_S2x32x512x1_0_1_2_3 (broadcastInDim S1x1x512x1 ![2] bcast_S512_S1x1x512x1_2 keep)) (broadcastInDim S2x32x512x1 ![0, 1, 2] bcast_S2x32x512_S2x32x512x1_0_1_2 (Host.reduceAdd w (constant S_ .f32 0x00000000#32) reducesTo_S2x32x512x512_S2x32x512_d3 h_S_)) (broadcastInDim S2x32x512x1 ![] bcast_S_S2x32x512x1 (id (constant S_ .f32 0x3F800000#32)))))) (broadcastInDim S2x32x512x512 ![] bcast_S_S2x32x512x512 (id (constant S_ .f32 0x00000000#32)))

/-- The result from the weights. -/
def result (w : FVec F S2x32x512x512 .f32) (a3 : FVec F S2x512x32x64 .f32) (a4 : FVec F S2048x768 .f32) :
    FVec F S2x512x768 .f32 :=
  Host.dotGeneral dot_S2x512x2048_S2048x768_S2x512x768_2_0_01_1_n_n none (shapeCast _ (transpose S2x512x32x64 [0, 3, 1, 2] (Host.dotGeneral dot_S2x512x32x64_S2x32x512x512_S2x32x64x512_1_3_3_2_02_01 none a3 w) transposes_S2x32x64x512_S2x512x32x64_0_3_1_2) shapeCasts_S2x512x32x64_S2x512x2048) a4

set_option maxRecDepth 100000 in
theorem res_eq (m : (ℓ : Loc nD τ sig) → Buf (Elt F) ℓ) (c : Dev nD) :
    Value.res_main_v44 m c = result (weight (expd (score (m ((c.tc : Thread nD τ).loc main_arg0)) (m ((c.tc : Thread nD τ).loc main_arg1)) (m ((c.tc : Thread nD τ).loc main_arg2))))) (m ((c.tc : Thread nD τ).loc main_arg3)) (m ((c.tc : Thread nD τ).loc main_arg4)) := rfl

theorem blk_at (i : Fin 512) : blk (ix1 i) = BitVec.ofNat 32 (i.val / 64) := by
  pointwise [blk, id]
  revert i
  decide +kernel

theorem mask_at (i j : Fin 512) : mask (ix2 i j) = if attends i j then 1#1 else 0#1 := by
  pointwise [mask, remd, qBlk, kBlk, three, id]
  rw [blk_at, blk_at]
  have hi : i.val / 64 < 8 := by omega
  have hj : j.val / 64 < 8 := by omega
  show _ = @ite _ (blockAttends (i.val / 64) (j.val / 64)) (blockDec _ _) _ _
  generalize i.val / 64 = a at hi ⊢
  generalize j.val / 64 = b at hj ⊢
  revert a b
  decide +kernel

theorem keep_at (i : Fin 512) : keep (ix1 i) = 1#1 := by
  pointwise [keep]
  have h := Finset.fold_insert (op := IntOp.ori (w := 1)) (b := 0#1) (f := fun x => mask (ix2 i x))
    (Finset.notMem_erase (0 : Fin 512) Finset.univ)
  rw [Finset.insert_erase (Finset.mem_univ 0), mask_at, if_pos (attends_first i)] at h
  rw [h]
  exact (by decide : ∀ w : BitVec 1, IntOp.ori 1#1 w = 1#1) _

variable (a0 : FVec Ideal S2x512x768 .f32) (a1 : FVec Ideal S768x2048 .f32) (a2 a3 : FVec Ideal S2x512x32x64 .f32)
  (a4 : FVec Ideal S2048x768 .f32) (s w : FVec Ideal S2x32x512x512 .f32)

theorem score_at (b : Fin 2) (h : Fin 32) (i j : Fin 512) : score a0 a1 a2 (ix4 b h i j)
    = (∑ d : Fin 64, (∑ k : Fin 768, a0 (ix3 b i k) * a1 (ix2 k ⟨h.val * 64 + d.val, by omega⟩)) * a2 (ix4 b j h d))
      * Ideal.ofBits .f32 0x3E000000#32 := by
  pointwise [score]

theorem masked_at (b : Fin 2) (h : Fin 32) (i j : Fin 512) :
    masked s (ix4 b h i j) = if attends i j then s (ix4 b h i j) else ⊥ := by
  pointwise [masked, id]
  rw [mask_at]
  split <;> rfl

theorem expd_at (b : Fin 2) (h : Fin 32) (i j : Fin 512) : expd s (ix4 b h i j)
    = Ideal.exp ((if attends i j then s (ix4 b h i j) else ⊥)
        - Finset.univ.fold max ⊥ (fun x => if attends i x then s (ix4 b h i x) else ⊥)) := by
  pointwise [expd]
  simp only [masked_at]
  rfl

theorem weight_at (b : Fin 2) (h : Fin 32) (i j : Fin 512) :
    weight w (ix4 b h i j) = Ideal.div (w (ix4 b h i j)) (∑ x, w (ix4 b h i x)) := by
  pointwise [weight, id]
  rw [keep_at]
  rfl

theorem result_at (b : Fin 2) (i : Fin 512) (n : Fin 768) : result w a3 a4 (ix3 b i n)
    = ∑ k : Fin 2048, (∑ j : Fin 512, a3 (ix4 b j ⟨k.val / 64, by omega⟩ ⟨k.val % 64, by omega⟩)
        * w (ix4 b ⟨k.val / 64, by omega⟩ i j)) * a4 (ix2 k n) := by
  pointwise [result]

end Cert.ReferenceIdeal.Read

end
-- ==== Proof.ValueHead.lean ====
/- One head, in the kernel and in the reference: the same columns of context. -/
module

public import proofs.«01_k».proof.Proof.ValueKernel
public import proofs.«01_k».proof.Proof.ValueReference

@[expose] public section

noncomputable section

namespace Cert.ValueHead

open Idealize.ShloMosaic
open Idealize.ShloMosaic.Pointwise
open Cert.Row Cert.KernelIdeal.Talk Cert.ReferenceIdeal.Read

theorem head_lt (p : Fin 4) (h : Fin 8) : 8 * p.val + h.val < 32 := by omega
theorem col_lt (p : Fin 4) (k : Fin 512) : 512 * p.val + k.val < 2048 := by omega

/-- The scale is a real number. -/
theorem scale_real : ∃ r : ℝ, Ideal.ofBits .f32 0x3E000000#32 = (r : EReal) := ⟨_, rfl⟩

variable (I : Ins Ideal) (p : Fin 4)
  (a0 : FVec Ideal Cert.ReferenceIdeal.S2x512x768 .f32) (a1 : FVec Ideal Cert.ReferenceIdeal.S768x2048 .f32)
  (a2 a3 : FVec Ideal Cert.ReferenceIdeal.S2x512x32x64 .f32) (a4 : FVec Ideal Cert.ReferenceIdeal.S2048x768 .f32)

/-- Device `p`'s operands are its blocks of the reference's arguments; those the scores read are real. -/
structure Blocks : Prop where
  x : ∀ b i t, I.x (ix3 b i t) = a0 (ix3 b i t)
  g : ∀ t e, I.g (ix2 t e) = a1 (ix2 t ⟨512 * p.val + e.val, col_lt p e⟩)
  k : ∀ b h j d, I.k (ix4 b h j d) = a2 (ix4 b j ⟨8 * p.val + h.val, head_lt p h⟩ d)
  v : ∀ b h j d, I.v (ix4 b h j d) = a3 (ix4 b j ⟨8 * p.val + h.val, head_lt p h⟩ d)
  o : ∀ k n, I.o (ix2 k n) = a4 (ix2 ⟨512 * p.val + k.val, col_lt p k⟩ n)
  xr : ∀ b i t, ∃ r : ℝ, I.x (ix3 b i t) = (r : EReal)
  gr : ∀ t e, ∃ r : ℝ, I.g (ix2 t e) = (r : EReal)
  kr : ∀ b h j d, ∃ r : ℝ, I.k (ix4 b h j d) = (r : EReal)

theorem head_eq (H : Blocks I p a0 a1 a2 a3 a4) (b : Fin 2) (h : Fin 8) (i : Fin 512) (d : Fin 64) :
    hd I b h (ix2 i d) = ∑ j : Fin 512, a3 (ix4 b j ⟨8 * p.val + h.val, head_lt p h⟩ d)
      * weight (expd (score a0 a1 a2)) (ix4 b ⟨8 * p.val + h.val, head_lt p h⟩ i j) := by
  obtain ⟨c, hc⟩ := scale_real
  choose xr hx using H.xr
  choose gr hg using H.gr
  choose kr hk using H.kr
  let s : Fin 512 → ℝ := fun j =>
    ∑ e : Fin 64, ((∑ t : Fin 768, xr b i t * gr t ⟨64 * h.val + e.val, by omega⟩) * c) * kr b h j e
  have hq : ∀ j, ∑ e : Fin 64, qAt I b i ⟨64 * h.val + e.val, by omega⟩ * I.k (ix4 b h j e) = (s j : EReal) := by
    intro j
    unfold qAt
    simp only [hc, hx, hg, hk, ← EReal.coe_mul, coe_sum]
    rfl
  have hr : ∀ j, score a0 a1 a2 (ix4 b ⟨8 * p.val + h.val, head_lt p h⟩ i j) = (s j : EReal) := by
    intro j
    rw [score_at]
    have e1 : ∀ (t : Fin 768) (e : Fin 64), a1 (ix2 t ⟨(8 * p.val + h.val) * 64 + e.val, by omega⟩)
        = (gr t ⟨64 * h.val + e.val, by omega⟩ : EReal) := by
      intro t e
      rw [← hg, H.g]
      congr 2
      exact Fin.ext (by show (8 * p.val + h.val) * 64 + e.val = 512 * p.val + (64 * h.val + e.val); omega)
    simp only [e1, ← H.x, ← H.k, hc, hx, hk, ← EReal.coe_mul, coe_sum]
    congr 1
    rw [Finset.sum_mul]
    exact Finset.sum_congr rfl fun e _ => by ring
  rw [hd_at]
  simp only [hq, weight_at, expd_at, hr, ← H.v]
  exact row (attends i) s (fun j => I.v (ix4 b h j d)) 0 (attends_first i)

/-- The sum over the devices of the partial outputs is the reference's sum over all columns of the context. -/
theorem total (In : Fin 4 → Ins Ideal) (H : ∀ p, Blocks (In p) p a0 a1 a2 a3 a4) (b : Fin 2) (i : Fin 512) (n : Fin 768) :
    ∑ p, partAt (In p) b i n = result (weight (expd (score a0 a1 a2))) a3 a4 (ix3 b i n) := by
  rw [result_at, ← (finProdFinEquiv (m := 4) (n := 512)).sum_comp, Fintype.sum_prod_type]
  refine Finset.sum_congr rfl fun p _ => Finset.sum_congr rfl fun k _ => ?_
  rw [head_eq (In p) p a0 a1 a2 a3 a4 (H p), (H p).o]
  have eH : (⟨8 * p.val + k.val / 64, by omega⟩ : Fin 32)
      = ⟨(finProdFinEquiv (p, k)).val / 64, by have := (finProdFinEquiv (p, k)).isLt; omega⟩ :=
    Fin.ext (by show 8 * p.val + k.val / 64 = (k.val + 512 * p.val) / 64; omega)
  have eD : (⟨k.val % 64, by omega⟩ : Fin 64) = ⟨(finProdFinEquiv (p, k)).val % 64, by omega⟩ :=
    Fin.ext (by show k.val % 64 = (k.val + 512 * p.val) % 64; omega)
  have eK : (⟨512 * p.val + k.val, col_lt p k⟩ : Fin 2048) = finProdFinEquiv (p, k) :=
    Fin.ext (by show 512 * p.val + k.val = k.val + 512 * p.val; omega)
  rw [eH, eD, eK]

end Cert.ValueHead

end
-- ==== Proof.ValueInputs.lean ====
/- The kernel's operands as reads of its arguments, and its result as reads of the devices' partial outputs. -/
module

public import proofs.«01_k».proof.Proof.ValueKernel
public import Idealize.ShloMosaic.Lib.StableHlo.ReadAt
public import Idealize.ShloMosaic.Lib.DynamicIndex

@[expose] public section

noncomputable section

namespace Cert.KernelIdeal.Talk

open Cert.KernelIdeal Cert.KernelIdeal.Gen
open Idealize.ShloMosaic Idealize.ShloMosaic.TcCoe
open Idealize.ShloMosaic.Pointwise
open Cert.Row

variable (m : (ℓ : Loc nD τ sig) → Buf (Elt Ideal) ℓ)

theorem out_at (c : D4) (b : Fin 2) (i : Fin 512) (n : Fin 768) :
    (V3 m (outs m) c main_v20 : Vec Ideal S2x512x768 .f32) (ix3 b i n) = ∑ p : D4, partAt (insOf m p) b i n := by
  show (StableHlo.after hostOps1 (V2 m (outs m) c) main_v20 : Vec Ideal S2x512x768 .f32) (ix3 b i n) = _
  after_reads_at
  rw [V2_v19]
  show outv (pvOf m) c ⟨b.val * 2 + i.val / 256, _⟩ (rowIx _) = _
  have e : rowIx (ix3 (⟨b.val * 2 + i.val / 256, by omega⟩ : Fin 4) (⟨i.val % 256, by omega⟩ : Fin 256) n)
      = ix3 0 ⟨i.val % 256, by omega⟩ n := by
    funext a
    match a with
    | 0 => rfl
    | 1 => rfl
    | 2 => rfl
  rw [e, outv_at, red_at]
  refine Finset.sum_congr rfl fun p _ => ?_
  refine (part_at (insOf m p) _ _ _).trans ?_
  congr 1
  · exact Fin.ext (by show (b.val * 2 + i.val / 256) / 2 = b.val; omega)
  · exact Fin.ext (by show 256 * ((b.val * 2 + i.val / 256) % 2) + i.val % 256 = i.val; omega)

theorem start_k (c : D4) : (StableHlo.upto (hostOps0 c) (V0 m c) 16 (Proc.devRef .tc main_v8) : IVec S_ 32) ix0
    = BitVec.ofNat 32 (8 * c.val) := by
  after_reads_at
  revert c
  decide +kernel
theorem start_v (c : D4) : (StableHlo.upto (hostOps0 c) (V0 m c) 27 (Proc.devRef .tc main_v13) : IVec S_ 32) ix0
    = BitVec.ofNat 32 (8 * c.val) := by
  after_reads_at
  revert c
  decide +kernel

theorem clamp_free (start : Fin 4 → Int) (a : Fin 4) (ha : a ≠ 2) :
    Host.clampedStart S2x512x32x64 S2x512x8x64 rfl start a = 0 := by
  unfold Host.clampedStart
  match a with
  | 0 => show (min (max _ 0) ((2 - 2 : Nat) : Int)).toNat = 0; omega
  | 1 => show (min (max _ 0) ((512 - 512 : Nat) : Int)).toNat = 0; omega
  | 2 => exact absurd rfl ha
  | 3 => show (min (max _ 0) ((64 - 64 : Nat) : Int)).toNat = 0; omega

theorem clamp_head (start : Fin 4 → Int) (c : D4) (w : BitVec 32) (hw : w = BitVec.ofNat 32 (8 * c.val)) (hs : start 2 = w.toInt) :
    Host.clampedStart S2x512x32x64 S2x512x8x64 rfl start 2 = 8 * c.val := by
  unfold Host.clampedStart
  have hc : c.val < 4 := c.isLt
  rw [hs, hw]
  show (min (max (BitVec.ofNat 32 (8 * c.val)).toInt 0) ((32 - 8 : Nat) : Int)).toNat = 8 * c.val
  rw [toInt_ofNat_of_lt (by omega)]
  omega

theorem head_lt (c : D4) (h : Fin 8) : 8 * c.val + h.val < 32 := by have : c.val < 4 := c.isLt; omega

theorem k_at (c : D4) (b : Fin 2) (h : Fin 8) (j : Fin 512) (d : Fin 64) :
    (V1 m c main_v16 : Vec Ideal S2x8x512x64 .bf16) (ix4 b h j d)
      = (m ((c : Thread nD τ).loc main_arg2) : Vec Ideal S2x512x32x64 .f32) (ix4 b j ⟨8 * c.val + h.val, head_lt c h⟩ d) := by
  show (StableHlo.after (hostOps0 c) (V0 m c) main_v16 : Vec Ideal S2x8x512x64 .bf16) (ix4 b h j d) = _
  after_reads_at
  have h8 := start_k m c
  generalize StableHlo.upto (hostOps0 c) (V0 m c) 16 = W at h8 ⊢
  refine congrArg (m ((c : Thread nD τ).loc main_arg2)) ?_
  congr 1
  · exact Fin.ext (by show Host.clampedStart _ _ _ _ 0 + _ = _; rw [clamp_free _ _ (by decide), Nat.zero_add])
  · exact Fin.ext (by show Host.clampedStart _ _ _ _ 1 + _ = _; rw [clamp_free _ _ (by decide), Nat.zero_add])
  · exact Fin.ext (congrArg (· + h.val) (clamp_head _ c _ h8
      (congrArg BitVec.toInt ((congrFun (cast_eq _ _) _).trans (congrArg _ (Subsingleton.elim _ _))))))
  · exact Fin.ext (by show Host.clampedStart _ _ _ _ 3 + _ = _; rw [clamp_free _ _ (by decide), Nat.zero_add])

theorem v_at (c : D4) (b : Fin 2) (h : Fin 8) (j : Fin 512) (d : Fin 64) :
    (V1 m c main_v18 : Vec Ideal S2x8x512x64 .bf16) (ix4 b h j d)
      = (m ((c : Thread nD τ).loc main_arg3) : Vec Ideal S2x512x32x64 .f32) (ix4 b j ⟨8 * c.val + h.val, head_lt c h⟩ d) := by
  show (StableHlo.after (hostOps0 c) (V0 m c) main_v18 : Vec Ideal S2x8x512x64 .bf16) (ix4 b h j d) = _
  after_reads_at
  have h8 := start_v m c
  generalize StableHlo.upto (hostOps0 c) (V0 m c) 27 = W at h8 ⊢
  refine congrArg (m ((c : Thread nD τ).loc main_arg3)) ?_
  congr 1
  · exact Fin.ext (by show Host.clampedStart _ _ _ _ 0 + _ = _; rw [clamp_free _ _ (by decide), Nat.zero_add])
  · exact Fin.ext (by show Host.clampedStart _ _ _ _ 1 + _ = _; rw [clamp_free _ _ (by decide), Nat.zero_add])
  · exact Fin.ext (congrArg (· + h.val) (clamp_head _ c _ h8
      (congrArg BitVec.toInt ((congrFun (cast_eq _ _) _).trans (congrArg _ (Subsingleton.elim _ _))))))
  · exact Fin.ext (by show Host.clampedStart _ _ _ _ 3 + _ = _; rw [clamp_free _ _ (by decide), Nat.zero_add])

theorem x_at (c : D4) : (insOf m c).x = m ((c : Thread nD τ).loc main_arg0) := V1_of m c main_arg0 (by decide)
theorem g_at (c : D4) : (insOf m c).g = m ((c : Thread nD τ).loc main_arg1) := V1_of m c main_arg1 (by decide)
theorem o_at (c : D4) : (insOf m c).o = m ((c : Thread nD τ).loc main_arg4) := V1_of m c main_arg4 (by decide)

end Cert.KernelIdeal.Talk

end
-- ==== Proof.Algebraic.lean ====
/- The value claim: from matching arguments whose scores are finite, every device ends with the reference's result. -/
module

public import proofs.«01_k».proof.Defs
public import proofs.«01_k».proof.Proof.Precond
public import proofs.«01_k».proof.Proof.KernelIdealLaunch
public import proofs.«01_k».proof.Proof.ValueHead
public import proofs.«01_k».proof.Proof.ValueInputs

@[expose] public section

noncomputable section

namespace Cert.Algebraic

open Idealize.ShloMosaic Idealize.ShloMosaic.TcCoe Idealize.SL.Sem
open Idealize.ShloMosaic.Pointwise
open Cert.Precond Cert.KernelIdeal.Talk

/-- A column block of the query projection. -/
theorem block_cols (c : Fin 4) (w : FVec Ideal Cert.ReferenceIdeal.S768x2048 .f32) (t : Fin 768) (e : Fin 512) :
    Layout.block ⟨2, ![768, 512]⟩ ⟨2, ![768, 2048]⟩ 1 4 c w (by decide) (ix2 t e)
      = w (ix2 t ⟨512 * c.val + e.val, Cert.ValueHead.col_lt c e⟩) := by
  rw [Layout.block_apply]
  refine congrArg w (funext fun a => ?_)
  match a with
  | 0 => rfl
  | 1 => exact Fin.ext (by show c.val * 512 + e.val = 512 * c.val + e.val; omega)

/-- A row block of the output projection. -/
theorem block_rows (c : Fin 4) (w : FVec Ideal Cert.ReferenceIdeal.S2048x768 .f32) (k : Fin 512) (n : Fin 768) :
    Layout.block ⟨2, ![512, 768]⟩ ⟨2, ![2048, 768]⟩ 0 4 c w (by decide) (ix2 k n)
      = w (ix2 ⟨512 * c.val + k.val, Cert.ValueHead.col_lt c k⟩ n) := by
  rw [Layout.block_apply]
  refine congrArg w (funext fun a => ?_)
  match a with
  | 0 => exact Fin.ext (by show c.val * 512 + k.val = 512 * c.val + k.val; omega)
  | 1 => rfl

theorem algebraic : Cert.algebraic_KernelIdeal_ReferenceIdeal_pre_finite_KernelIdeal := by
  intro m g m' g' hpre hag
  refine ⟨Cert.ReferenceIdeal.Value.res_main_v44 m' 0, ?_,
    (θ_run _ _ _).mono (fun r h => h 0) (Cert.ReferenceIdeal.Value.run m' g')⟩
  have key : ∀ c : D4, (Cert.KernelIdeal.Gen.V3 m (outs m) c Cert.KernelIdeal.main_v20 : Vec Ideal Cert.KernelIdeal.S2x512x768 .f32)
      = Cert.ReferenceIdeal.Value.res_main_v44 m' 0 := by
    intro c
    rw [Cert.ReferenceIdeal.Read.res_eq]
    funext j
    rw [eq_ix3 j]
    refine (out_at m c _ _ _).trans ?_
    refine Cert.ValueHead.total _ _ _ _ _ (fun p => insOf m p) (fun p => ?_) _ _ _
    obtain ⟨h0, h1, h2, h3, h4⟩ := hag p
    obtain ⟨f0, f1, f2⟩ := finite_of _ _ _ _ _ (hpre p)
    constructor
    · exact fun b i t => (congrFun (x_at m p) _).trans (congrFun h0 _)
    · exact fun t e => ((congrFun (g_at m p) _).trans (congrFun h1 _)).trans (block_cols p _ t e)
    · exact fun b h j d => (k_at m p b h j d).trans (congrFun h2 _)
    · exact fun b h j d => (v_at m p b h j d).trans (congrFun h3 _)
    · exact fun k n => ((congrFun (o_at m p) _).trans (congrFun h4 _)).trans (block_rows p _ k n)
    · exact fun b i t => let ⟨r, hr⟩ := f0 (ix3 b i t); ⟨r, (congrFun (x_at m p) _).trans hr⟩
    · exact fun t e => let ⟨r, hr⟩ := f1 (ix2 t e); ⟨r, (congrFun (g_at m p) _).trans hr⟩
    · exact fun b h j d => let ⟨r, hr⟩ := f2 (ix4 b j _ d); ⟨r, (k_at m p b h j d).trans hr⟩
  exact (θ_run _ _ _).mono (fun r h c => ⟨(h.1 c).2.trans (key c), (h.1 c).1⟩) (run_main m g)

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Precond.pre_kernel, Cert.Precond.pre_reference,
    Cert.Frames.kernel, Cert.Frames.kernelIdeal, Cert.Frames.kernelIdeal_pre, Cert.Frames.reference, Cert.Frames.reference_pre,
    Cert.Frames.preserves, Cert.Algebraic.algebraic⟩

end Cert.Proof

end
